-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![2, 256, 512]⟩ ⟨3, ![8, 256, 512]⟩ 0 4 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v13) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x256 : Shape := ⟨2, ![512, 256]⟩
abbrev S256x8 : Shape := ⟨2, ![256, 8]⟩
abbrev S512x1 : Shape := ⟨2, ![512, 1]⟩
abbrev S2x256x512 : Shape := ⟨3, ![2, 256, 512]⟩
abbrev S512x512 : Shape := ⟨2, ![512, 512]⟩
abbrev S4x4x128x128 : Shape := ⟨4, ![4, 4, 128, 128]⟩
abbrev S4x128x128 : Shape := ⟨3, ![4, 128, 128]⟩
abbrev S4x4 : Shape := ⟨2, ![4, 4]⟩
abbrev S_ : Shape := ⟨0, ![]⟩
abbrev S128x256 : Shape := ⟨2, ![128, 256]⟩
abbrev S128x1 : Shape := ⟨2, ![128, 1]⟩
abbrev S1x256x128 : Shape := ⟨3, ![1, 256, 128]⟩
abbrev S256x128 : Shape := ⟨2, ![256, 128]⟩
abbrev S128x128 : Shape := ⟨2, ![128, 128]⟩
abbrev S1x1x128x128 : Shape := ⟨4, ![1, 1, 128, 128]⟩
abbrev S1x1 : Shape := ⟨2, ![1, 1]⟩
abbrev S1x128x128 : Shape := ⟨3, ![1, 128, 128]⟩

abbrev nBuf : Space → Nat
  | .hbm => 5
  | .vmem => 9
  | .smem => 0
  | _ => 0

abbrev bufTy : (tb : Table) → Fin (tcTables nBuf tb) → BufTy
  | .hbm, ⟨0, _⟩ => ⟨S512x256, .f32⟩
  | .hbm, ⟨1, _⟩ => ⟨S256x8, .f32⟩
  | .hbm, ⟨2, _⟩ => ⟨S512x1, .i32⟩
  | .hbm, ⟨3, _⟩ => ⟨S2x256x512, .f32⟩
  | .hbm, ⟨4, _⟩ => ⟨S512x512, .f32⟩
  | .local _ .vmem, ⟨0, _⟩ => ⟨S512x256, .f32⟩
  | .local _ .vmem, ⟨1, _⟩ => ⟨S256x8, .f32⟩
  | .local _ .vmem, ⟨2, _⟩ => ⟨S512x1, .i32⟩
  | .local _ .vmem, ⟨3, _⟩ => ⟨S2x256x512, .f32⟩
  | .local _ .vmem, ⟨4, _⟩ => ⟨S512x512, .f32⟩
  | .local _ .vmem, ⟨5, _⟩ => ⟨S4x4x128x128, .bf16⟩
  | .local _ .vmem, ⟨6, _⟩ => ⟨S4x4x128x128, .bf16⟩
  | .local _ .vmem, ⟨7, _⟩ => ⟨S4x128x128, .bf16⟩
  | .local _ .vmem, ⟨8, _⟩ => ⟨S4x4x128x128, .bf16⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 69 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | _ => false

abbrev sig : RefSig :=
  (ofTc nBuf bufTy 1 69 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_scratch3 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v3 : BitVec 32 := Scalar.xori v2 c2_i32
  let c1_i32_2 : BitVec 32 := 1#32
  let v7 : BitVec 32 := Scalar.muli v3 c1_i32_2
  let v8 : BitVec 32 := Scalar.addi c0_i32 v7
  v8.toNat
def k0_dev2 (d0 : Dev nD) : Nat :=
  let c0_i32_5 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.xori v2 c1_i32_0
  let c1_i32_4 : BitVec 32 := 1#32
  let v9 : BitVec 32 := Scalar.muli v4 c1_i32_4
  let v10 : BitVec 32 := Scalar.addi c0_i32_5 v9
  v10.toNat
def k0_dev3 (d0 : Dev nD) : Nat :=
  let c0_i32_8 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v5 : BitVec 32 := Scalar.xori v2 c3_i32
  let c1_i32_7 : BitVec 32 := 1#32
  let v11 : BitVec 32 := Scalar.muli v5 c1_i32_7
  let v12 : BitVec 32 := Scalar.addi c0_i32_8 v11
  v12.toNat
def k0_off1 (d0 : Dev nD) (c2_i32 : BitVec 32) : Fin 3 → Nat :=
  let c0_39 : Index := 0#32
  let c0_40 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3 : BitVec 32 := Scalar.xori v2 c2_i32
  let c1_i32_34 : BitVec 32 := 1#32
  let v89 : BitVec 1 := Scalar.cmpi .eq v3 c1_i32_34
  let c2_i32_35 : BitVec 32 := 2#32
  let v90 : BitVec 1 := Scalar.cmpi .eq v3 c2_i32_35
  let v91 : BitVec 1 := Scalar.ori v89 v90
  let c256_i32 : BitVec 32 := 256#32
  let c0_i32_36 : BitVec 32 := 0#32
  let v92 : BitVec 32 := Scalar.select v91 c256_i32 c0_i32_36
  let c2_i32_37 : BitVec 32 := 2#32
  let v93 : BitVec 1 := Scalar.cmpi .sge v3 c2_i32_37
  let c128_i32 : BitVec 32 := 128#32
  let c0_i32_38 : BitVec 32 := 0#32
  let v94 : BitVec 32 := Scalar.select v93 c128_i32 c0_i32_38
  let v95 : BitVec 32 := Scalar.addi v92 v94
  let v96 : Index := Scalar.indexCast v95
  ![0, 0, v96.toNat]
def k0_off2 (d0 : Dev nD) (c2_i32 : BitVec 32) : Fin 3 → Nat :=
  let c1 : Index := 1#32
  let c0_41 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3 : BitVec 32 := Scalar.xori v2 c2_i32
  let c1_i32_34 : BitVec 32 := 1#32
  let v89 : BitVec 1 := Scalar.cmpi .eq v3 c1_i32_34
  let c2_i32_35 : BitVec 32 := 2#32
  let v90 : BitVec 1 := Scalar.cmpi .eq v3 c2_i32_35
  let v91 : BitVec 1 := Scalar.ori v89 v90
  let c256_i32 : BitVec 32 := 256#32
  let c0_i32_36 : BitVec 32 := 0#32
  let v92 : BitVec 32 := Scalar.select v91 c256_i32 c0_i32_36
  let c2_i32_37 : BitVec 32 := 2#32
  let v93 : BitVec 1 := Scalar.cmpi .sge v3 c2_i32_37
  let c128_i32 : BitVec 32 := 128#32
  let c0_i32_38 : BitVec 32 := 0#32
  let v94 : BitVec 32 := Scalar.select v93 c128_i32 c0_i32_38
  let v95 : BitVec 32 := Scalar.addi v92 v94
  let v99 : Index := Scalar.indexCast v95
  ![1, 0, v99.toNat]
def k0_off3 (d0 : Dev nD) (c2_i32 : BitVec 32) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3 : BitVec 32 := Scalar.xori v2 c2_i32
  let v106 : Index := Scalar.indexCast v3
  let c0_43 : Index := 0#32
  let c0_44 : Index := 0#32
  let c0_45 : Index := 0#32
  ![v106.toNat, 0, 0, 0]
def k0_off4 (d0 : Dev nD) (c2_i32 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3 : BitVec 32 := Scalar.xori v2 c2_i32
  let c0_i32_49 : BitVec 32 := 0#32
  ![v3.toNat, 0]
def k0_off5 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_48 : BitVec 32 := 0#32
  ![v2.toNat, 0]
def k0_off6 (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_47 : BitVec 32 := 0#32
  let c0_i32_52 : BitVec 32 := 0#32
  let c0_i32_53 : BitVec 32 := 0#32
  ![v2.toNat, 0, 0, 0]
def k0_off7 (d0 : Dev nD) (c2_i32 : BitVec 32) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3 : BitVec 32 := Scalar.xori v2 c2_i32
  let c0_i32_46 : BitVec 32 := 0#32
  let c0_i32_54 : BitVec 32 := 0#32
  let c0_i32_55 : BitVec 32 := 0#32
  ![v3.toNat, 0, 0, 0]
def k0_dev4 (d0 : Dev nD) : Nat :=
  let c0_i32_51 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v3 : BitVec 32 := Scalar.xori v2 c2_i32
  let c1_i32_50 : BitVec 32 := 1#32
  let v110 : BitVec 32 := Scalar.muli v3 c1_i32_50
  let v111 : BitVec 32 := Scalar.addi c0_i32_51 v110
  v111.toNat
def k0_dev5 (d0 : Dev nD) : Nat :=
  let c0_i32_77 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.xori v2 c1_i32_0
  let c1_i32_76 : BitVec 32 := 1#32
  let v141 : BitVec 32 := Scalar.muli v4 c1_i32_76
  let v142 : BitVec 32 := Scalar.addi c0_i32_77 v141
  v142.toNat
def k0_dev6 (d0 : Dev nD) : Nat :=
  let c0_i32_103 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v5 : BitVec 32 := Scalar.xori v2 c3_i32
  let c1_i32_102 : BitVec 32 := 1#32
  let v172 : BitVec 32 := Scalar.muli v5 c1_i32_102
  let v173 : BitVec 32 := Scalar.addi c0_i32_103 v172
  v173.toNat
def k0_off8 (d0 : Dev nD) (c2_i32 : BitVec 32) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3 : BitVec 32 := Scalar.xori v2 c2_i32
  let v199 : Index := Scalar.indexCast v3
  let c1_121 : Index := 1#32
  let c0_122 : Index := 0#32
  let c0_123 : Index := 0#32
  ![v199.toNat, 1, 0, 0]
def k0_off9 (d0 : Dev nD) (c2_i32 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3 : BitVec 32 := Scalar.xori v2 c2_i32
  let c1_i32_127 : BitVec 32 := 1#32
  ![v3.toNat, 1]
def k0_off10 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_126 : BitVec 32 := 1#32
  ![v2.toNat, 1]
def k0_off11 (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_125 : BitVec 32 := 1#32
  let c0_i32_130 : BitVec 32 := 0#32
  let c0_i32_131 : BitVec 32 := 0#32
  ![v2.toNat, 1, 0, 0]
def k0_off12 (d0 : Dev nD) (c2_i32 : BitVec 32) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3 : BitVec 32 := Scalar.xori v2 c2_i32
  let c1_i32_124 : BitVec 32 := 1#32
  let c0_i32_132 : BitVec 32 := 0#32
  let c0_i32_133 : BitVec 32 := 0#32
  ![v3.toNat, 1, 0, 0]
def k0_dev7 (d0 : Dev nD) : Nat :=
  let c0_i32_129 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v3 : BitVec 32 := Scalar.xori v2 c2_i32
  let c1_i32_128 : BitVec 32 := 1#32
  let v203 : BitVec 32 := Scalar.muli v3 c1_i32_128
  let v204 : BitVec 32 := Scalar.addi c0_i32_129 v203
  v204.toNat
def k0_dev8 (d0 : Dev nD) : Nat :=
  let c0_i32_155 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.xori v2 c1_i32_0
  let c1_i32_154 : BitVec 32 := 1#32
  let v234 : BitVec 32 := Scalar.muli v4 c1_i32_154
  let v235 : BitVec 32 := Scalar.addi c0_i32_155 v234
  v235.toNat
def k0_dev9 (d0 : Dev nD) : Nat :=
  let c0_i32_181 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v5 : BitVec 32 := Scalar.xori v2 c3_i32
  let c1_i32_180 : BitVec 32 := 1#32
  let v265 : BitVec 32 := Scalar.muli v5 c1_i32_180
  let v266 : BitVec 32 := Scalar.addi c0_i32_181 v265
  v266.toNat
def k0_off13 (d0 : Dev nD) (c2_i32 : BitVec 32) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3 : BitVec 32 := Scalar.xori v2 c2_i32
  let v292 : Index := Scalar.indexCast v3
  let c2 : Index := 2#32
  let c0_199 : Index := 0#32
  let c0_200 : Index := 0#32
  ![v292.toNat, 2, 0, 0]
def k0_off14 (d0 : Dev nD) (c2_i32 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3 : BitVec 32 := Scalar.xori v2 c2_i32
  let c2_i32_204 : BitVec 32 := 2#32
  ![v3.toNat, 2]
def k0_off15 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_203 : BitVec 32 := 2#32
  ![v2.toNat, 2]
def k0_off16 (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_202 : BitVec 32 := 2#32
  let c0_i32_207 : BitVec 32 := 0#32
  let c0_i32_208 : BitVec 32 := 0#32
  ![v2.toNat, 2, 0, 0]
def k0_off17 (d0 : Dev nD) (c2_i32 : BitVec 32) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3 : BitVec 32 := Scalar.xori v2 c2_i32
  let c2_i32_201 : BitVec 32 := 2#32
  let c0_i32_209 : BitVec 32 := 0#32
  let c0_i32_210 : BitVec 32 := 0#32
  ![v3.toNat, 2, 0, 0]
def k0_dev10 (d0 : Dev nD) : Nat :=
  let c0_i32_206 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v3 : BitVec 32 := Scalar.xori v2 c2_i32
  let c1_i32_205 : BitVec 32 := 1#32
  let v296 : BitVec 32 := Scalar.muli v3 c1_i32_205
  let v297 : BitVec 32 := Scalar.addi c0_i32_206 v296
  v297.toNat
def k0_dev11 (d0 : Dev nD) : Nat :=
  let c0_i32_232 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.xori v2 c1_i32_0
  let c1_i32_231 : BitVec 32 := 1#32
  let v327 : BitVec 32 := Scalar.muli v4 c1_i32_231
  let v328 : BitVec 32 := Scalar.addi c0_i32_232 v327
  v328.toNat
def k0_dev12 (d0 : Dev nD) : Nat :=
  let c0_i32_258 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v5 : BitVec 32 := Scalar.xori v2 c3_i32
  let c1_i32_257 : BitVec 32 := 1#32
  let v358 : BitVec 32 := Scalar.muli v5 c1_i32_257
  let v359 : BitVec 32 := Scalar.addi c0_i32_258 v358
  v359.toNat
def k0_off18 (d0 : Dev nD) (c2_i32 : BitVec 32) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3 : BitVec 32 := Scalar.xori v2 c2_i32
  let v385 : Index := Scalar.indexCast v3
  let c3 : Index := 3#32
  let c0_276 : Index := 0#32
  let c0_277 : Index := 0#32
  ![v385.toNat, 3, 0, 0]
def k0_off19 (d0 : Dev nD) (c2_i32 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3 : BitVec 32 := Scalar.xori v2 c2_i32
  let c3_i32_281 : BitVec 32 := 3#32
  ![v3.toNat, 3]
def k0_off20 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_280 : BitVec 32 := 3#32
  ![v2.toNat, 3]
def k0_off21 (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_279 : BitVec 32 := 3#32
  let c0_i32_284 : BitVec 32 := 0#32
  let c0_i32_285 : BitVec 32 := 0#32
  ![v2.toNat, 3, 0, 0]
def k0_off22 (d0 : Dev nD) (c2_i32 : BitVec 32) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3 : BitVec 32 := Scalar.xori v2 c2_i32
  let c3_i32_278 : BitVec 32 := 3#32
  let c0_i32_286 : BitVec 32 := 0#32
  let c0_i32_287 : BitVec 32 := 0#32
  ![v3.toNat, 3, 0, 0]
def k0_dev13 (d0 : Dev nD) : Nat :=
  let c0_i32_283 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v3 : BitVec 32 := Scalar.xori v2 c2_i32
  let c1_i32_282 : BitVec 32 := 1#32
  let v389 : BitVec 32 := Scalar.muli v3 c1_i32_282
  let v390 : BitVec 32 := Scalar.addi c0_i32_283 v389
  v390.toNat
def k0_dev14 (d0 : Dev nD) : Nat :=
  let c0_i32_309 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.xori v2 c1_i32_0
  let c1_i32_308 : BitVec 32 := 1#32
  let v420 : BitVec 32 := Scalar.muli v4 c1_i32_308
  let v421 : BitVec 32 := Scalar.addi c0_i32_309 v420
  v421.toNat
def k0_dev15 (d0 : Dev nD) : Nat :=
  let c0_i32_335 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v5 : BitVec 32 := Scalar.xori v2 c3_i32
  let c1_i32_334 : BitVec 32 := 1#32
  let v451 : BitVec 32 := Scalar.muli v5 c1_i32_334
  let v452 : BitVec 32 := Scalar.addi c0_i32_335 v451
  v452.toNat
def k0_off23 (d0 : Dev nD) : Fin 3 → Nat :=
  let c0_347 : Index := 0#32
  let c0_348 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_340 : BitVec 32 := 1#32
  let v461 : BitVec 1 := Scalar.cmpi .eq v2 c1_i32_340
  let c2_i32_341 : BitVec 32 := 2#32
  let v462 : BitVec 1 := Scalar.cmpi .eq v2 c2_i32_341
  let v463 : BitVec 1 := Scalar.ori v461 v462
  let c256_i32_342 : BitVec 32 := 256#32
  let c0_i32_343 : BitVec 32 := 0#32
  let v464 : BitVec 32 := Scalar.select v463 c256_i32_342 c0_i32_343
  let c2_i32_344 : BitVec 32 := 2#32
  let v465 : BitVec 1 := Scalar.cmpi .sge v2 c2_i32_344
  let c128_i32_345 : BitVec 32 := 128#32
  let c0_i32_346 : BitVec 32 := 0#32
  let v466 : BitVec 32 := Scalar.select v465 c128_i32_345 c0_i32_346
  let v467 : BitVec 32 := Scalar.addi v464 v466
  let v468 : Index := Scalar.indexCast v467
  ![0, 0, v468.toNat]
def k0_off24 (d0 : Dev nD) : Fin 3 → Nat :=
  let c1_349 : Index := 1#32
  let c0_350 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_340 : BitVec 32 := 1#32
  let v461 : BitVec 1 := Scalar.cmpi .eq v2 c1_i32_340
  let c2_i32_341 : BitVec 32 := 2#32
  let v462 : BitVec 1 := Scalar.cmpi .eq v2 c2_i32_341
  let v463 : BitVec 1 := Scalar.ori v461 v462
  let c256_i32_342 : BitVec 32 := 256#32
  let c0_i32_343 : BitVec 32 := 0#32
  let v464 : BitVec 32 := Scalar.select v463 c256_i32_342 c0_i32_343
  let c2_i32_344 : BitVec 32 := 2#32
  let v465 : BitVec 1 := Scalar.cmpi .sge v2 c2_i32_344
  let c128_i32_345 : BitVec 32 := 128#32
  let c0_i32_346 : BitVec 32 := 0#32
  let v466 : BitVec 32 := Scalar.select v465 c128_i32_345 c0_i32_346
  let v467 : BitVec 32 := Scalar.addi v464 v466
  let v471 : Index := Scalar.indexCast v467
  ![1, 0, v471.toNat]
def k0_dev16 (d0 : Dev nD) : Nat :=
  let c0_i32_439 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v3 : BitVec 32 := Scalar.xori v2 c2_i32
  let c1_i32_438 : BitVec 32 := 1#32
  let v568 : BitVec 32 := Scalar.muli v3 c1_i32_438
  let v569 : BitVec 32 := Scalar.addi c0_i32_439 v568
  v569.toNat
def k0_dev17 (d0 : Dev nD) : Nat :=
  let c0_i32_449 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.xori v2 c1_i32_0
  let c1_i32_448 : BitVec 32 := 1#32
  let v578 : BitVec 32 := Scalar.muli v4 c1_i32_448
  let v579 : BitVec 32 := Scalar.addi c0_i32_449 v578
  v579.toNat
def k0_dev18 (d0 : Dev nD) : Nat :=
  let c0_i32_459 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v5 : BitVec 32 := Scalar.xori v2 c3_i32
  let c1_i32_458 : BitVec 32 := 1#32
  let v588 : BitVec 32 := Scalar.muli v5 c1_i32_458
  let v589 : BitVec 32 := Scalar.addi c0_i32_459 v588
  v589.toNat
def k0_off25 (d0 : Dev nD) : Fin 2 → Nat :=
  let c0_471 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_464 : BitVec 32 := 1#32
  let v598 : BitVec 1 := Scalar.cmpi .eq v2 c1_i32_464
  let c2_i32_465 : BitVec 32 := 2#32
  let v599 : BitVec 1 := Scalar.cmpi .eq v2 c2_i32_465
  let v600 : BitVec 1 := Scalar.ori v598 v599
  let c256_i32_466 : BitVec 32 := 256#32
  let c0_i32_467 : BitVec 32 := 0#32
  let v601 : BitVec 32 := Scalar.select v600 c256_i32_466 c0_i32_467
  let c2_i32_468 : BitVec 32 := 2#32
  let v602 : BitVec 1 := Scalar.cmpi .sge v2 c2_i32_468
  let c128_i32_469 : BitVec 32 := 128#32
  let c0_i32_470 : BitVec 32 := 0#32
  let v603 : BitVec 32 := Scalar.select v602 c128_i32_469 c0_i32_470
  let v604 : BitVec 32 := Scalar.addi v601 v603
  let v605 : Index := Scalar.indexCast v604
  ![0, v605.toNat]
def k0_dev19 (d0 : Dev nD) : Nat :=
  let c0_i32_519 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v3 : BitVec 32 := Scalar.xori v2 c2_i32
  let c1_i32_518 : BitVec 32 := 1#32
  let v650 : BitVec 32 := Scalar.muli v3 c1_i32_518
  let v651 : BitVec 32 := Scalar.addi c0_i32_519 v650
  v651.toNat
def k0_dev20 (d0 : Dev nD) : Nat :=
  let c0_i32_529 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.xori v2 c1_i32_0
  let c1_i32_528 : BitVec 32 := 1#32
  let v660 : BitVec 32 := Scalar.muli v4 c1_i32_528
  let v661 : BitVec 32 := Scalar.addi c0_i32_529 v660
  v661.toNat
def k0_dev21 (d0 : Dev nD) : Nat :=
  let c0_i32_539 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v5 : BitVec 32 := Scalar.xori v2 c3_i32
  let c1_i32_538 : BitVec 32 := 1#32
  let v670 : BitVec 32 := Scalar.muli v5 c1_i32_538
  let v671 : BitVec 32 := Scalar.addi c0_i32_539 v670
  v671.toNat
def k0_off26 (d0 : Dev nD) : Fin 2 → Nat :=
  let c128_551 : Index := 128#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_544 : BitVec 32 := 1#32
  let v680 : BitVec 1 := Scalar.cmpi .eq v2 c1_i32_544
  let c2_i32_545 : BitVec 32 := 2#32
  let v681 : BitVec 1 := Scalar.cmpi .eq v2 c2_i32_545
  let v682 : BitVec 1 := Scalar.ori v680 v681
  let c256_i32_546 : BitVec 32 := 256#32
  let c0_i32_547 : BitVec 32 := 0#32
  let v683 : BitVec 32 := Scalar.select v682 c256_i32_546 c0_i32_547
  let c2_i32_548 : BitVec 32 := 2#32
  let v684 : BitVec 1 := Scalar.cmpi .sge v2 c2_i32_548
  let c128_i32_549 : BitVec 32 := 128#32
  let c0_i32_550 : BitVec 32 := 0#32
  let v685 : BitVec 32 := Scalar.select v684 c128_i32_549 c0_i32_550
  let v686 : BitVec 32 := Scalar.addi v683 v685
  let v687 : Index := Scalar.indexCast v686
  ![128, v687.toNat]
def k0_dev22 (d0 : Dev nD) : Nat :=
  let c0_i32_599 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v3 : BitVec 32 := Scalar.xori v2 c2_i32
  let c1_i32_598 : BitVec 32 := 1#32
  let v732 : BitVec 32 := Scalar.muli v3 c1_i32_598
  let v733 : BitVec 32 := Scalar.addi c0_i32_599 v732
  v733.toNat
def k0_dev23 (d0 : Dev nD) : Nat :=
  let c0_i32_609 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.xori v2 c1_i32_0
  let c1_i32_608 : BitVec 32 := 1#32
  let v742 : BitVec 32 := Scalar.muli v4 c1_i32_608
  let v743 : BitVec 32 := Scalar.addi c0_i32_609 v742
  v743.toNat
def k0_dev24 (d0 : Dev nD) : Nat :=
  let c0_i32_619 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v5 : BitVec 32 := Scalar.xori v2 c3_i32
  let c1_i32_618 : BitVec 32 := 1#32
  let v752 : BitVec 32 := Scalar.muli v5 c1_i32_618
  let v753 : BitVec 32 := Scalar.addi c0_i32_619 v752
  v753.toNat
def k0_off27 (d0 : Dev nD) : Fin 2 → Nat :=
  let c256_631 : Index := 256#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_624 : BitVec 32 := 1#32
  let v762 : BitVec 1 := Scalar.cmpi .eq v2 c1_i32_624
  let c2_i32_625 : BitVec 32 := 2#32
  let v763 : BitVec 1 := Scalar.cmpi .eq v2 c2_i32_625
  let v764 : BitVec 1 := Scalar.ori v762 v763
  let c256_i32_626 : BitVec 32 := 256#32
  let c0_i32_627 : BitVec 32 := 0#32
  let v765 : BitVec 32 := Scalar.select v764 c256_i32_626 c0_i32_627
  let c2_i32_628 : BitVec 32 := 2#32
  let v766 : BitVec 1 := Scalar.cmpi .sge v2 c2_i32_628
  let c128_i32_629 : BitVec 32 := 128#32
  let c0_i32_630 : BitVec 32 := 0#32
  let v767 : BitVec 32 := Scalar.select v766 c128_i32_629 c0_i32_630
  let v768 : BitVec 32 := Scalar.addi v765 v767
  let v769 : Index := Scalar.indexCast v768
  ![256, v769.toNat]
def k0_dev25 (d0 : Dev nD) : Nat :=
  let c0_i32_679 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v3 : BitVec 32 := Scalar.xori v2 c2_i32
  let c1_i32_678 : BitVec 32 := 1#32
  let v814 : BitVec 32 := Scalar.muli v3 c1_i32_678
  let v815 : BitVec 32 := Scalar.addi c0_i32_679 v814
  v815.toNat
def k0_dev26 (d0 : Dev nD) : Nat :=
  let c0_i32_689 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.xori v2 c1_i32_0
  let c1_i32_688 : BitVec 32 := 1#32
  let v824 : BitVec 32 := Scalar.muli v4 c1_i32_688
  let v825 : BitVec 32 := Scalar.addi c0_i32_689 v824
  v825.toNat
def k0_dev27 (d0 : Dev nD) : Nat :=
  let c0_i32_699 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v5 : BitVec 32 := Scalar.xori v2 c3_i32
  let c1_i32_698 : BitVec 32 := 1#32
  let v834 : BitVec 32 := Scalar.muli v5 c1_i32_698
  let v835 : BitVec 32 := Scalar.addi c0_i32_699 v834
  v835.toNat
def k0_off28 (d0 : Dev nD) : Fin 2 → Nat :=
  let c384_711 : Index := 384#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_704 : BitVec 32 := 1#32
  let v844 : BitVec 1 := Scalar.cmpi .eq v2 c1_i32_704
  let c2_i32_705 : BitVec 32 := 2#32
  let v845 : BitVec 1 := Scalar.cmpi .eq v2 c2_i32_705
  let v846 : BitVec 1 := Scalar.ori v844 v845
  let c256_i32_706 : BitVec 32 := 256#32
  let c0_i32_707 : BitVec 32 := 0#32
  let v847 : BitVec 32 := Scalar.select v846 c256_i32_706 c0_i32_707
  let c2_i32_708 : BitVec 32 := 2#32
  let v848 : BitVec 1 := Scalar.cmpi .sge v2 c2_i32_708
  let c128_i32_709 : BitVec 32 := 128#32
  let c0_i32_710 : BitVec 32 := 0#32
  let v849 : BitVec 32 := Scalar.select v848 c128_i32_709 c0_i32_710
  let v850 : BitVec 32 := Scalar.addi v847 v849
  let v851 : Index := Scalar.indexCast v850
  ![384, v851.toNat]
def k0_off29 (d0 : Dev nD) (c2_i32 : BitVec 32) : Fin 2 → Nat :=
  let c0_732 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3 : BitVec 32 := Scalar.xori v2 c2_i32
  let c1_i32_725 : BitVec 32 := 1#32
  let v865 : BitVec 1 := Scalar.cmpi .eq v3 c1_i32_725
  let c2_i32_726 : BitVec 32 := 2#32
  let v866 : BitVec 1 := Scalar.cmpi .eq v3 c2_i32_726
  let v867 : BitVec 1 := Scalar.ori v865 v866
  let c256_i32_727 : BitVec 32 := 256#32
  let c0_i32_728 : BitVec 32 := 0#32
  let v868 : BitVec 32 := Scalar.select v867 c256_i32_727 c0_i32_728
  let c2_i32_729 : BitVec 32 := 2#32
  let v869 : BitVec 1 := Scalar.cmpi .sge v3 c2_i32_729
  let c128_i32_730 : BitVec 32 := 128#32
  let c0_i32_731 : BitVec 32 := 0#32
  let v870 : BitVec 32 := Scalar.select v869 c128_i32_730 c0_i32_731
  let v871 : BitVec 32 := Scalar.addi v868 v870
  let v872 : Index := Scalar.indexCast v871
  ![0, v872.toNat]
def k0_off30 (d0 : Dev nD) (c2_i32 : BitVec 32) : Fin 2 → Nat :=
  let c128_795 : Index := 128#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3 : BitVec 32 := Scalar.xori v2 c2_i32
  let c1_i32_788 : BitVec 32 := 1#32
  let v928 : BitVec 1 := Scalar.cmpi .eq v3 c1_i32_788
  let c2_i32_789 : BitVec 32 := 2#32
  let v929 : BitVec 1 := Scalar.cmpi .eq v3 c2_i32_789
  let v930 : BitVec 1 := Scalar.ori v928 v929
  let c256_i32_790 : BitVec 32 := 256#32
  let c0_i32_791 : BitVec 32 := 0#32
  let v931 : BitVec 32 := Scalar.select v930 c256_i32_790 c0_i32_791
  let c2_i32_792 : BitVec 32 := 2#32
  let v932 : BitVec 1 := Scalar.cmpi .sge v3 c2_i32_792
  let c128_i32_793 : BitVec 32 := 128#32
  let c0_i32_794 : BitVec 32 := 0#32
  let v933 : BitVec 32 := Scalar.select v932 c128_i32_793 c0_i32_794
  let v934 : BitVec 32 := Scalar.addi v931 v933
  let v935 : Index := Scalar.indexCast v934
  ![128, v935.toNat]
def k0_off31 (d0 : Dev nD) (c2_i32 : BitVec 32) : Fin 2 → Nat :=
  let c256_858 : Index := 256#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3 : BitVec 32 := Scalar.xori v2 c2_i32
  let c1_i32_851 : BitVec 32 := 1#32
  let v991 : BitVec 1 := Scalar.cmpi .eq v3 c1_i32_851
  let c2_i32_852 : BitVec 32 := 2#32
  let v992 : BitVec 1 := Scalar.cmpi .eq v3 c2_i32_852
  let v993 : BitVec 1 := Scalar.ori v991 v992
  let c256_i32_853 : BitVec 32 := 256#32
  let c0_i32_854 : BitVec 32 := 0#32
  let v994 : BitVec 32 := Scalar.select v993 c256_i32_853 c0_i32_854
  let c2_i32_855 : BitVec 32 := 2#32
  let v995 : BitVec 1 := Scalar.cmpi .sge v3 c2_i32_855
  let c128_i32_856 : BitVec 32 := 128#32
  let c0_i32_857 : BitVec 32 := 0#32
  let v996 : BitVec 32 := Scalar.select v995 c128_i32_856 c0_i32_857
  let v997 : BitVec 32 := Scalar.addi v994 v996
  let v998 : Index := Scalar.indexCast v997
  ![256, v998.toNat]
def k0_off32 (d0 : Dev nD) (c2_i32 : BitVec 32) : Fin 2 → Nat :=
  let c384_921 : Index := 384#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3 : BitVec 32 := Scalar.xori v2 c2_i32
  let c1_i32_914 : BitVec 32 := 1#32
  let v1054 : BitVec 1 := Scalar.cmpi .eq v3 c1_i32_914
  let c2_i32_915 : BitVec 32 := 2#32
  let v1055 : BitVec 1 := Scalar.cmpi .eq v3 c2_i32_915
  let v1056 : BitVec 1 := Scalar.ori v1054 v1055
  let c256_i32_916 : BitVec 32 := 256#32
  let c0_i32_917 : BitVec 32 := 0#32
  let v1057 : BitVec 32 := Scalar.select v1056 c256_i32_916 c0_i32_917
  let c2_i32_918 : BitVec 32 := 2#32
  let v1058 : BitVec 1 := Scalar.cmpi .sge v3 c2_i32_918
  let c128_i32_919 : BitVec 32 := 128#32
  let c0_i32_920 : BitVec 32 := 0#32
  let v1059 : BitVec 32 := Scalar.select v1058 c128_i32_919 c0_i32_920
  let v1060 : BitVec 32 := Scalar.addi v1057 v1059
  let v1061 : Index := Scalar.indexCast v1060
  ![384, v1061.toNat]
abbrev stage0_0 : Fin 1 → Memref sig .tc .vmem S512x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S512x256 : Shape := ⟨2, ![512, 256]⟩
abbrev S256x8 : Shape := ⟨2, ![256, 8]⟩
abbrev S512x1 : Shape := ⟨2, ![512, 1]⟩
abbrev S8x256x512 : Shape := ⟨3, ![8, 256, 512]⟩
abbrev S512 : Shape := ⟨1, ![512]⟩
abbrev S1 : Shape := ⟨1, ![1]⟩
abbrev S_ : Shape := ⟨0, ![]⟩
abbrev S1x1 : Shape := ⟨2, ![1, 1]⟩
abbrev S512x256x512 : Shape := ⟨3, ![512, 256, 512]⟩
abbrev S512x512 : Shape := ⟨2, ![512, 512]⟩

abbrev nBuf : Space → Nat
  | .hbm => 22
  | .vmem => 0
  | .smem => 0
  | _ => 0

abbrev bufTy : (tb : Table) → Fin (tcTables nBuf tb) → BufTy
  | .hbm, ⟨0, _⟩ => ⟨S512x256, .f32⟩
  | .hbm, ⟨1, _⟩ => ⟨S256x8, .f32⟩
  | .hbm, ⟨2, _⟩ => ⟨S512x1, .i32⟩
  | .hbm, ⟨3, _⟩ => ⟨S8x256x512, .f32⟩
  | .hbm, ⟨4, _⟩ => ⟨S512, .i32⟩
  | .hbm, ⟨5, _⟩ => ⟨S512x1, .i32⟩
  | .hbm, ⟨6, _⟩ => ⟨S1, .i32⟩
  | .hbm, ⟨7, _⟩ => ⟨S_, .i32⟩
  | .hbm, ⟨8, _⟩ => ⟨S512x1, .i32⟩
  | .hbm, ⟨9, _⟩ => ⟨S512x1, .i1⟩
  | .hbm, ⟨10, _⟩ => ⟨S1x1, .i32⟩
  | .hbm, ⟨11, _⟩ => ⟨S512x1, .i32⟩
  | .hbm, ⟨12, _⟩ => ⟨S512x1, .i1⟩
  | .hbm, ⟨13, _⟩ => ⟨S512x1, .i1⟩
  | .hbm, ⟨14, _⟩ => ⟨S_, .i1⟩
  | .hbm, ⟨15, _⟩ => ⟨S512, .i1⟩
  | .hbm, ⟨16, _⟩ => ⟨S512x256x512, .f32⟩
  | .hbm, ⟨17, _⟩ => ⟨S512x256x512, .i1⟩
  | .hbm, ⟨18, _⟩ => ⟨S_, .f32⟩
  | .hbm, ⟨19, _⟩ => ⟨S512x256x512, .f32⟩
  | .hbm, ⟨20, _⟩ => ⟨S512x256x512, .f32⟩
  | .hbm, ⟨21, _⟩ => ⟨S512x512, .f32⟩
  | _, _ => ⟨S512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩

abbrev nD : Nat := 1
abbrev τ : Topo := Topo.v7x

variable {F : FTy → Type} [FloatOps F]
-- ==== Proof.Flow.lean ====
/-
# The kernel's body as a program over chunks and peers

The printed body repeats a handful of operations for every chunk `k` of the rows and every peer of the device. Here
each repeated group is one definition at a chunk `k : Fin 4` and a peer number `r : Fin 3` (the peer of `c` is `c`
with the bits of `r + 1` flipped), the body is the sequence of these (`flow`), and `cc0_body_eq_flow` says that the
printed body is that sequence.
-/
module

public import proofs.«01_k».proof.Proof.Gen.KernelIdeal
public import proofs.«01_k».proof.Proof.Gen.KernelIdeal.Skeleton

@[expose] public section

noncomputable section

namespace Cert.KernelIdeal.Moe

open Cert.KernelIdeal Cert.KernelIdeal.Gen
open Idealize.ShloMosaic Idealize.ShloMosaic.TcCoe
open Idealize.SL.Sem

variable {F : FTy → Type} [FloatOps F]

/-! ## Peers and offsets -/

/-- The three peer numbers in the order in which the kernel visits its peers. -/
def rs : List (Fin 3) := [1, 0, 2]

/-- The chunk and peer pairs in the order in which the kernel visits them. -/
def krs : List (Fin 4 × Fin 3) :=
  [(0, 1), (0, 0), (0, 2), (1, 1), (1, 0), (1, 2), (2, 1), (2, 0), (2, 2), (3, 1), (3, 0), (3, 2)]

/-- The bits in which a device and its peer `r` differ. -/
abbrev msk (r : Fin 3) : BitVec 32 := BitVec.ofNat 32 (1 + r.val)

/-- Peer `r` of device `c`. -/
def peer (c : Dev nD) (r : Fin 3) : Dev nD := ⟨c.val ^^^ (r.val + 1), by revert c r; decide⟩

/-- The first column of the quarter that device `d` reduces. -/
def quart (d : Dev nD) : Nat := (![0, 256, 384, 128] : Fin 4 → Nat) d

/-- Where chunk `k` of a buffer of four by four slots has its slot for peer `r`, as a load or store names it. -/
def slotO (k : Fin 4) (c : Dev nD) (r : Fin 3) : Fin 4 → Nat :=
  match k with
  | 0 => k0_off3 c (msk r) | 1 => k0_off8 c (msk r) | 2 => k0_off13 c (msk r) | 3 => k0_off18 c (msk r)

/-- The same slot as a transfer names it. -/
def slotD (k : Fin 4) (c : Dev nD) (r : Fin 3) : Fin 4 → Nat :=
  match k with
  | 0 => k0_off7 c (msk r) | 1 => k0_off12 c (msk r) | 2 => k0_off17 c (msk r) | 3 => k0_off22 c (msk r)

/-- The slot of device `c` itself, as a transfer names it. -/
def slotP (k : Fin 4) (c : Dev nD) : Fin 4 → Nat :=
  match k with
  | 0 => k0_off6 c | 1 => k0_off11 c | 2 => k0_off16 c | 3 => k0_off21 c

/-- The semaphore of chunk `k` for peer `r` in an array of four by four. -/
def semO (k : Fin 4) (c : Dev nD) (r : Fin 3) : Fin 2 → Nat :=
  match k with
  | 0 => k0_off4 c (msk r) | 1 => k0_off9 c (msk r) | 2 => k0_off14 c (msk r) | 3 => k0_off19 c (msk r)

/-- The semaphore of chunk `k` for device `c` itself. -/
def semP (k : Fin 4) (c : Dev nD) : Fin 2 → Nat :=
  match k with
  | 0 => k0_off5 c | 1 => k0_off10 c | 2 => k0_off15 c | 3 => k0_off20 c

/-- Where the result's chunk `k` has device `c`'s own quarter. -/
def outO (k : Fin 4) (c : Dev nD) : Fin 2 → Nat :=
  match k with
  | 0 => k0_off25 c | 1 => k0_off26 c | 2 => k0_off27 c | 3 => k0_off28 c

/-- Where the result's chunk `k` has the quarter of peer `r`. -/
def outR (k : Fin 4) (c : Dev nD) (r : Fin 3) : Fin 2 → Nat :=
  match k with
  | 0 => k0_off29 c (msk r) | 1 => k0_off30 c (msk r) | 2 => k0_off31 c (msk r) | 3 => k0_off32 c (msk r)

/-- The device that the first exchange's copy of chunk `k` for peer `r` goes to. -/
def dev1 (k : Fin 4) (r : Fin 3) (c : Dev nD) : Nat :=
  match k, r with
  | 0, 1 => k0_dev4 c | 0, 0 => k0_dev5 c | 0, 2 => k0_dev6 c
  | 1, 1 => k0_dev7 c | 1, 0 => k0_dev8 c | 1, 2 => k0_dev9 c
  | 2, 1 => k0_dev10 c | 2, 0 => k0_dev11 c | 2, 2 => k0_dev12 c
  | 3, 1 => k0_dev13 c | 3, 0 => k0_dev14 c | 3, 2 => k0_dev15 c

/-- The device that the second exchange's copy of chunk `k` for peer `r` goes to. -/
def dev2 (k : Fin 4) (r : Fin 3) (c : Dev nD) : Nat :=
  match k, r with
  | 0, 1 => k0_dev16 c | 0, 0 => k0_dev17 c | 0, 2 => k0_dev18 c
  | 1, 1 => k0_dev19 c | 1, 0 => k0_dev20 c | 1, 2 => k0_dev21 c
  | 2, 1 => k0_dev22 c | 2, 0 => k0_dev23 c | 2, 2 => k0_dev24 c
  | 3, 1 => k0_dev25 c | 3, 0 => k0_dev26 c | 3, 2 => k0_dev27 c

/-! The closed forms, decided over the mesh, the chunks and the peers. -/

theorem slotO_eq : ∀ k c r, slotO k c r = ![(peer c r).val, k.val, 0, 0] := by decide +kernel
theorem slotD_eq : ∀ k c r, slotD k c r = ![(peer c r).val, k.val, 0, 0] := by decide +kernel
theorem slotP_eq : ∀ k c, slotP k c = ![c.val, k.val, 0, 0] := by decide +kernel
theorem semO_eq : ∀ k c r, semO k c r = ![(peer c r).val, k.val] := by decide +kernel
theorem semP_eq : ∀ k c, semP k c = ![c.val, k.val] := by decide +kernel
theorem outO_eq : ∀ k c, outO k c = ![k.val * 128, quart c] := by decide +kernel
theorem outR_eq : ∀ k c r, outR k c r = ![k.val * 128, quart (peer c r)] := by decide +kernel
theorem dev1_eq : ∀ k r c, dev1 k r c = (peer c r).val := by decide +kernel
theorem dev2_eq : ∀ k r c, dev2 k r c = (peer c r).val := by decide +kernel
theorem off1_eq : ∀ c r, k0_off1 c (msk r) = ![0, 0, quart (peer c r)] := by decide +kernel
theorem off2_eq : ∀ c r, k0_off2 c (msk r) = ![1, 0, quart (peer c r)] := by decide +kernel
theorem off23_eq : ∀ c, k0_off23 c = ![0, 0, quart c] := by decide +kernel
theorem off24_eq : ∀ c, k0_off24 c = ![1, 0, quart c] := by decide +kernel

/-! ## The repeated groups, at any offsets -/

/-- A program of the kernel's core. -/
abbrev Pr (F : FTy → Type) [FloatOps F] : Type _ := Prog (TpuEff nD τ sig (Elt F) Λ₀ .tc) PUnit

/-- The staged operands and result, and the four exchange buffers, each whole. -/
abbrev XB : Memref sig .tc .vmem S512x256 .f32 := Memref.whole cc0_stg0_0
abbrev IB : Memref sig .tc .vmem S512x1 .i32 := Memref.whole cc0_stg2_0
abbrev WB : Memref sig .tc .vmem S2x256x512 .f32 := Memref.whole cc0_stg3_0
abbrev OB : Memref sig .tc .vmem S512x512 .f32 := Memref.whole cc0_stg4_0
abbrev SQ : Memref sig .tc .vmem S4x4x128x128 .bf16 := Memref.whole cc0_scratch0
abbrev RQ : Memref sig .tc .vmem S4x4x128x128 .bf16 := Memref.whole cc0_scratch1
abbrev SB : Memref sig .tc .vmem S4x128x128 .bf16 := Memref.whole cc0_scratch2
abbrev RB : Memref sig .tc .vmem S4x4x128x128 .bf16 := Memref.whole cc0_scratch3

/-- That an offset leaves room for one slot, for one half of an expert's columns, for one semaphore, for one block of
    the result. -/
abbrev In4 (o : Fin 4 → Nat) : Prop := ∀ a, o a + S1x1x128x128.size a ≤ S4x4x128x128.size a
abbrev In3 (o : Fin 3 → Nat) : Prop := ∀ a, o a + S1x128x128.size a ≤ S4x128x128.size a
abbrev InW (o : Fin 3 → Nat) : Prop := ∀ a, o a + S1x256x128.size a ≤ S2x256x512.size a
abbrev InS (o : Fin 2 → Nat) : Prop := ∀ a, o a + S1x1.size a ≤ S4x4.size a
abbrev InO (o : Fin 2 → Nat) : Prop := ∀ a, o a + S128x128.size a ≤ S512x512.size a
abbrev InX (o : Fin 2 → Nat) : Prop := ∀ a, o a + S128x256.size a ≤ S512x256.size a
abbrev InI (o : Fin 2 → Nat) : Prop := ∀ a, o a + S128x1.size a ≤ S512x1.size a

/-- The rectangles at an offset. -/
abbrev rect4 (o : Fin 4 → Nat) (i : In4 o) : Rect S4x4x128x128 := Rect.unit (s := S4x4x128x128) o S1x1x128x128.size i
abbrev rect3 (o : Fin 3 → Nat) (i : In3 o) : Rect S4x128x128 := Rect.unit (s := S4x128x128) o S1x128x128.size i
abbrev rectW (o : Fin 3 → Nat) (i : InW o) : Rect S2x256x512 := Rect.unit (s := S2x256x512) o S1x256x128.size i
abbrev rectO (o : Fin 2 → Nat) (i : InO o) : Rect S512x512 := Rect.unit (s := S512x512) o S128x128.size i
abbrev rectX (o : Fin 2 → Nat) (i : InX o) : Rect S512x256 := Rect.unit (s := S512x256) o S128x256.size i
abbrev rectI (o : Fin 2 → Nat) (i : InI o) : Rect S512x1 := Rect.unit (s := S512x1) o S128x1.size i

/-- A slot of a four by four buffer as a matrix. -/
abbrev slot4 (M : Memref sig .tc .vmem S4x4x128x128 .bf16) (o : Fin 4 → Nat) (i : In4 o) : Memref sig .tc .vmem S128x128 .bf16 :=
  (M.slice (rect4 o i) (fun _ => rfl)).squeeze S128x128 squeezes_S1x1x128x128_S128x128

/-- A slot of the four chunks' buffer as a matrix. -/
abbrev slot3 (o : Fin 3 → Nat) (i : In3 o) : Memref sig .tc .vmem S128x128 .bf16 :=
  (SB.slice (rect3 o i) (fun _ => rfl)).squeeze S128x128 squeezes_S1x128x128_S128x128

/-- One semaphore of a four by four array. -/
abbrev semAt (A : DmaSems sig S4x4) (o : Fin 2 → Nat) (i : InS o) : DmaSem sig :=
  ((A.slice (Rect.unit (s := S4x4) o S1x1.size i)).squeeze S_ squeezes_S1x1_S_).sem

/-- The sums of both experts' products, in the narrow type, as the slot's block of a chunk: the rows `a` times the
    block `w` plus the rows `b` times the block `v`. -/
abbrev partN (a b : FVec F S128x256 .f32) (w v : Vec F S1x256x128 .f32) : FVec F S1x1x128x128 .bf16 := k0_pay17 a b w v
/-- The same sums in the wide type, as a matrix. -/
abbrev partW (a b : FVec F S128x256 .f32) (w v : Vec F S1x256x128 .f32) : FVec F S128x128 .f32 := k0_pay29 a b w v
/-- A device's own sums plus what its three peers sent. -/
abbrev total (m : FVec F S128x128 .f32) (x y z : Vec F S1x1x128x128 .bf16) : FVec F S128x128 .f32 := k0_pay37 m x y z
/-- The same in the narrow type. -/
abbrev totalN (m : FVec F S128x128 .f32) (x y z : Vec F S1x1x128x128 .bf16) : FVec F S1x128x128 .bf16 := k0_pay38 m x y z
/-- A received block in the wide type. -/
abbrev wide (v : Vec F S1x1x128x128 .bf16) : FVec F S128x128 .f32 := k0_pay47 v

/-- The word of the device's position that the kernel computes. -/
abbrev pos (c : Dev nD) : BitVec 32 := Scalar.remsi (Scalar.divsi (Dev.word c) 1#32) 4#32

/-- The rows of `x` whose index is the device's first expert, and its second. -/
abbrev rows0 (c : Dev nD) (x : Vec F S128x256 .f32) (i : Vec F S128x1 .i32) : FVec F S128x256 .f32 := k0_pay7 (pos c) x i
abbrev rows1 (c : Dev nD) (x : Vec F S128x256 .f32) (i : Vec F S128x1 .i32) : FVec F S128x256 .f32 := k0_pay8 (pos c) x i

/-- Read one chunk of the rows and of the indices. -/
def readAt (ox : Fin 2 → Nat) (ix : InX ox) (oi : Fin 2 → Nat) (ii : InI oi)
    (rest : Vec F S128x256 .f32 → Vec F S128x1 .i32 → Pr F) : Pr F := do
  let x : Vec F S128x256 .f32 ← Prog.lift (.load XB (rectX ox ix).toLoadRect (View.loadsAt_vmem h_S128x256))
  let i : Vec F S128x1 .i32 ← Prog.lift (.load IB (rectI oi ii).toLoadRect (View.loadsAt_vmem h_S128x1))
  rest x i

/-- Compute one slot of the first exchange, store it and copy it to a peer. -/
def putAt (o1 : Fin 3 → Nat) (i1 : InW o1) (o2 : Fin 3 → Nat) (i2 : InW o2) (os : Fin 4 → Nat) (is : In4 os)
    (hs : (SQ.access (rect4 os is)).Stores Finset.univ)
    (od : Fin 4 → Nat) (id : In4 od) (hd : (slot4 SQ od id).view.WordExact)
    (op : Fin 4 → Nat) (ip : In4 op) (hp : (slot4 RQ op ip).view.WordExact)
    (ot : Fin 2 → Nat) (it : InS ot) (ou : Fin 2 → Nat) (iu : InS ou) (d : Dev nD)
    (a b : FVec F S128x256 .f32) (rest : Pr F) : Pr F := do
  let w : Vec F S1x256x128 .f32 ← Prog.lift (.load WB (rectW o1 i1).toLoadRect (View.loadsAt_vmem h_S1x256x128))
  let v : Vec F S1x256x128 .f32 ← Prog.lift (.load WB (rectW o2 i2).toLoadRect (View.loadsAt_vmem h_S1x256x128))
  let _ : Vec F S1x1x128x128 .bf16 ← Prog.lift (.load SQ (rect4 os is).toLoadRect (View.loadsAt_vmem h_S1x1x128x128))
  Prog.lift (.store SQ (rect4 os is) (partN a b w v) Finset.univ hs (.inl rfl))
  Prog.lift (.enqueueDma (slot4 SQ od id) (.remote (Dev.tc d) (slot4 RQ op ip) (.dma (semAt cc0_scratch4 ot it)))
    (.dma (semAt cc0_scratch5 ou iu)) hd hp ⟨⟨rfl, Or.inl rfl⟩, trivial⟩)
  rest

/-- Compute a device's own sums of one chunk. -/
def ownAt (o1 : Fin 3 → Nat) (i1 : InW o1) (o2 : Fin 3 → Nat) (i2 : InW o2) (a b : FVec F S128x256 .f32)
    (rest : FVec F S128x128 .f32 → Pr F) : Pr F := do
  let w : Vec F S1x256x128 .f32 ← Prog.lift (.load WB (rectW o1 i1).toLoadRect (View.loadsAt_vmem h_S1x256x128))
  let v : Vec F S1x256x128 .f32 ← Prog.lift (.load WB (rectW o2 i2).toLoadRect (View.loadsAt_vmem h_S1x256x128))
  rest (partW a b w v)

/-- Wait on one semaphore of an array for the copy of one slot. -/
def waitAt {e e' : EltTy} (A : DmaSems sig S4x4) (ot : Fin 2 → Nat) (it : InS ot)
    (src : Memref sig .tc .vmem S128x128 e) (hsrc : src.view.WordExact)
    (dst : Memref sig .tc .vmem S128x128 e') (hdst : dst.view.WordExact) (rest : Pr F) : Pr F := do
  Prog.lift (.waitDma2 (semAt A ot it) src dst hsrc hdst)
  rest

/-- Add what the three peers sent to a device's own sums, and store the total in the narrow type. -/
def sumAt (o1 : Fin 4 → Nat) (i1 : In4 o1) (o2 : Fin 4 → Nat) (i2 : In4 o2) (o3 : Fin 4 → Nat) (i3 : In4 o3)
    (ob : Fin 3 → Nat) (ib : In3 ob) (hb : (SB.access (rect3 ob ib)).Stores Finset.univ)
    (m : FVec F S128x128 .f32) (rest : FVec F S128x128 .f32 → Pr F) : Pr F := do
  let x : Vec F S1x1x128x128 .bf16 ← Prog.lift (.load RQ (rect4 o1 i1).toLoadRect (View.loadsAt_vmem h_S1x1x128x128))
  let y : Vec F S1x1x128x128 .bf16 ← Prog.lift (.load RQ (rect4 o2 i2).toLoadRect (View.loadsAt_vmem h_S1x1x128x128))
  let z : Vec F S1x1x128x128 .bf16 ← Prog.lift (.load RQ (rect4 o3 i3).toLoadRect (View.loadsAt_vmem h_S1x1x128x128))
  let _ : Vec F S1x128x128 .bf16 ← Prog.lift (.load SB (rect3 ob ib).toLoadRect (View.loadsAt_vmem h_S1x128x128))
  Prog.lift (.store SB (rect3 ob ib) (totalN m x y z) Finset.univ hb (.inl rfl))
  rest (total m x y z)

/-- Copy a chunk's total to a peer. -/
def shareAt (ob : Fin 3 → Nat) (ib : In3 ob) (hb : (slot3 ob ib).view.WordExact)
    (op : Fin 4 → Nat) (ip : In4 op) (hp : (slot4 RB op ip).view.WordExact)
    (ot : Fin 2 → Nat) (it : InS ot) (ou : Fin 2 → Nat) (iu : InS ou) (d : Dev nD) (rest : Pr F) : Pr F := do
  Prog.lift (.enqueueDma (slot3 ob ib) (.remote (Dev.tc d) (slot4 RB op ip) (.dma (semAt cc0_scratch6 ot it)))
    (.dma (semAt cc0_scratch7 ou iu)) hb hp ⟨⟨rfl, Or.inl rfl⟩, trivial⟩)
  rest

/-- Store one block of the result. -/
def keepAt (oo : Fin 2 → Nat) (io : InO oo) (v : FVec F S128x128 .f32) (rest : Pr F) : Pr F := do
  let _ : Vec F S128x128 .f32 ← Prog.lift (.load OB (rectO oo io).toLoadRect (View.loadsAt_vmem h_S128x128))
  Prog.lift (.store OB (rectO oo io) v Finset.univ (View.stores_vmem_bits_univ h_S128x128 rfl) (.inl rfl))
  rest

/-- Store one received block of the result. -/
def gatherAt (os : Fin 4 → Nat) (is : In4 os) (oo : Fin 2 → Nat) (io : InO oo) (rest : Pr F) : Pr F := do
  let v : Vec F S1x1x128x128 .bf16 ← Prog.lift (.load RB (rect4 os is).toLoadRect (View.loadsAt_vmem h_S1x1x128x128))
  keepAt oo io (wide v) rest

/-! ## The printed offsets stay inside, and the alignment of the slots -/

theorem slotO_in (k : Fin 4) (c : Dev nD) (r : Fin 3) : In4 (slotO k c r) :=
  match k with | 0 => k0_off3_inb c r | 1 => k0_off8_inb c r | 2 => k0_off13_inb c r | 3 => k0_off18_inb c r
theorem slotD_in (k : Fin 4) (c : Dev nD) (r : Fin 3) : In4 (slotD k c r) :=
  match k with | 0 => k0_off7_inb c r | 1 => k0_off12_inb c r | 2 => k0_off17_inb c r | 3 => k0_off22_inb c r
theorem slotP_in (k : Fin 4) (c : Dev nD) : In4 (slotP k c) :=
  match k with | 0 => k0_off6_inb c | 1 => k0_off11_inb c | 2 => k0_off16_inb c | 3 => k0_off21_inb c
theorem semO_in (k : Fin 4) (c : Dev nD) (r : Fin 3) : InS (semO k c r) :=
  match k with | 0 => k0_off4_inb c r | 1 => k0_off9_inb c r | 2 => k0_off14_inb c r | 3 => k0_off19_inb c r
theorem semP_in (k : Fin 4) (c : Dev nD) : InS (semP k c) :=
  match k with | 0 => k0_off5_inb c | 1 => k0_off10_inb c | 2 => k0_off15_inb c | 3 => k0_off20_inb c
theorem outO_in (k : Fin 4) (c : Dev nD) : InO (outO k c) :=
  match k with | 0 => k0_off25_inb c | 1 => k0_off26_inb c | 2 => k0_off27_inb c | 3 => k0_off28_inb c
theorem outR_in (k : Fin 4) (c : Dev nD) (r : Fin 3) : InO (outR k c r) :=
  match k with | 0 => k0_off29_inb c r | 1 => k0_off30_inb c r | 2 => k0_off31_inb c r | 3 => k0_off32_inb c r

theorem slotO_packed (k : Fin 4) (c : Dev nD) (r : Fin 3) :
    (rect4 (slotO k c r) (slotO_in k c r)).PackedRows (EltTy.packing .bf16) :=
  match k with
  | 0 => k0_off3_packedbf16 c r | 1 => k0_off8_packedbf16 c r | 2 => k0_off13_packedbf16 c r | 3 => k0_off18_packedbf16 c r

theorem slotP_words (k : Fin 4) (c : Dev nD) : (rect4 (slotP k c) (slotP_in k c)).WholeWords (EltTy.packing .bf16) :=
  match k with
  | 0 => k0_off6_wordsbf16 c | 1 => k0_off11_wordsbf16 c | 2 => k0_off16_wordsbf16 c | 3 => k0_off21_wordsbf16 c

/-! ## The offsets by slot -/

/-- Slot `(t, k)` of a four by four buffer. -/
abbrev o4 (t : Dev nD) (k : Fin 4) : Fin 4 → Nat := ![t.val, k.val, 0, 0]
/-- Semaphore `(t, k)` of a four by four array. -/
abbrev o2 (t : Dev nD) (k : Fin 4) : Fin 2 → Nat := ![t.val, k.val]
/-- Chunk `k` of the four chunks' buffer. -/
abbrev o3 (k : Fin 4) : Fin 3 → Nat := ![k.val, 0, 0]
/-- Expert `e`'s columns for the quarter of device `d`. -/
abbrev oW (e : Fin 2) (d : Dev nD) : Fin 3 → Nat := ![e.val, 0, quart d]
/-- The result's rows of chunk `k` and columns of the quarter of device `d`. -/
abbrev oO (k : Fin 4) (d : Dev nD) : Fin 2 → Nat := ![k.val * 128, quart d]
/-- The rows of chunk `k`. -/
abbrev oR (k : Fin 4) : Fin 2 → Nat := ![k.val * 128, 0]

theorem in4 : ∀ t k, In4 (o4 t k) := by decide +kernel
theorem in3 : ∀ k, In3 (o3 k) := by decide +kernel
theorem inS : ∀ t k, InS (o2 t k) := by decide +kernel
theorem inW : ∀ e d, InW (oW e d) := by decide +kernel
theorem inO : ∀ k d, InO (oO k d) := by decide +kernel
theorem inX : ∀ k, InX (oR k) := by decide +kernel
theorem inI : ∀ k, InI (oR k) := by decide +kernel

theorem peer_peer : ∀ c r, peer (peer c r) r = c := by decide +kernel

theorem packed4 (t : Dev nD) (k : Fin 4) : (rect4 (o4 t k) (in4 t k)).PackedRows (EltTy.packing .bf16) := by
  have h (o : Fin 4 → Nat) (i : In4 o) (e : o = slotO k (peer t 0) 0) : (rect4 o i).PackedRows (EltTy.packing .bf16) := by
    subst e; exact slotO_packed k (peer t 0) 0
  exact h _ _ (by rw [slotO_eq, peer_peer])

theorem words4 (t : Dev nD) (k : Fin 4) : (rect4 (o4 t k) (in4 t k)).WholeWords (EltTy.packing .bf16) := by
  have h (o : Fin 4 → Nat) (i : In4 o) (e : o = slotP k t) : (rect4 o i).WholeWords (EltTy.packing .bf16) := by
    subst e; exact slotP_words k t
  exact h _ _ (slotP_eq k t).symm

theorem packed3 (k : Fin 4) : (rect3 (o3 k) (in3 k)).PackedRows (EltTy.packing .bf16) :=
  match k with
  | 0 => packedbf16_S4x128x128_S1x128x128_0_0_0 | 1 => packedbf16_S4x128x128_S1x128x128_1_0_0
  | 2 => packedbf16_S4x128x128_S1x128x128_2_0_0 | 3 => packedbf16_S4x128x128_S1x128x128_3_0_0

theorem words3 (k : Fin 4) : (rect3 (o3 k) (in3 k)).WholeWords (EltTy.packing .bf16) :=
  match k with
  | 0 => wordsbf16_S4x128x128_S1x128x128_0_0_0 | 1 => wordsbf16_S4x128x128_S1x128x128_1_0_0
  | 2 => wordsbf16_S4x128x128_S1x128x128_2_0_0 | 3 => wordsbf16_S4x128x128_S1x128x128_3_0_0

/-- A store to a slot whose rows are packed is admitted. -/
theorem stores4 {M : Memref sig .tc .vmem S4x4x128x128 .bf16} (h : M.IsWhole) {o : Fin 4 → Nat} {i : In4 o}
    (p : (rect4 o i).PackedRows (EltTy.packing .bf16)) : (M.access (rect4 o i)).Stores Finset.univ :=
  View.stores_vmem h_S1x1x128x128 (h.storeExact_slice rfl _ p) (fun _ => rfl)
theorem stores3 {o : Fin 3 → Nat} {i : In3 o}
    (p : (rect3 o i).PackedRows (EltTy.packing .bf16)) : (SB.access (rect3 o i)).Stores Finset.univ :=
  View.stores_vmem h_S1x128x128 ((Memref.isWhole_whole _).storeExact_slice rfl _ p) (fun _ => rfl)
/-- A slot made of whole words is word-exact. -/
theorem exact4 {M : Memref sig .tc .vmem S4x4x128x128 .bf16} (h : M.IsWhole) {o : Fin 4 → Nat} {i : In4 o}
    (p : (rect4 o i).WholeWords (EltTy.packing .bf16)) : (slot4 M o i).view.WordExact :=
  (h.wordExact_slice rfl _ p).reshape _ _
theorem exact3 {o : Fin 3 → Nat} {i : In3 o} (p : (rect3 o i).WholeWords (EltTy.packing .bf16)) : (slot3 o i).view.WordExact :=
  ((Memref.isWhole_whole _).wordExact_slice rfl _ p).reshape _ _

theorem slotD_words (k : Fin 4) (c : Dev nD) (r : Fin 3) : (rect4 (slotD k c r) (slotD_in k c r)).WholeWords (EltTy.packing .bf16) := by
  have h (o : Fin 4 → Nat) (i : In4 o) (e : o = o4 (peer c r) k) : (rect4 o i).WholeWords (EltTy.packing .bf16) := by
    subst e; exact words4 (peer c r) k
  exact h _ _ (slotD_eq k c r)

theorem wholeSQ : SQ.IsWhole := Memref.isWhole_whole _
theorem wholeRQ : RQ.IsWhole := Memref.isWhole_whole _
theorem wholeRB : RB.IsWhole := Memref.isWhole_whole _

/-! ## The groups by chunk and peer -/

/-- The matrix in slot `(t, k)` of a four by four buffer, and in chunk `k` of the four chunks' buffer. -/
abbrev s4 (M : Memref sig .tc .vmem S4x4x128x128 .bf16) (t : Dev nD) (k : Fin 4) : Memref sig .tc .vmem S128x128 .bf16 :=
  slot4 M (o4 t k) (in4 t k)
abbrev s3 (k : Fin 4) : Memref sig .tc .vmem S128x128 .bf16 := slot3 (o3 k) (in3 k)

/-- Semaphore `(t, k)` of an array. -/
abbrev sm (A : DmaSems sig S4x4) (t : Dev nD) (k : Fin 4) : DmaSem sig := semAt A (o2 t k) (inS t k)

/-- The barrier's semaphore. -/
abbrev barS : Sem sig := (SemArray.scalar (sig.barrier 0 rfl) : Sems sig S_).sem

/-- Signal the three peers and wait for their three signals. -/
def shake (c : Dev nD) (rest : Pr F) : Pr F := do
  semSignalWord (peer c 1) barS 1#32
  semSignalWord (peer c 0) barS 1#32
  semSignalWord (peer c 2) barS 1#32
  semWaitWord barS 3#32
  rest

def read (k : Fin 4) (rest : Vec F S128x256 .f32 → Vec F S128x1 .i32 → Pr F) : Pr F :=
  readAt (oR k) (inX k) (oR k) (inI k) rest

def put (c : Dev nD) (k : Fin 4) (r : Fin 3) (a b : FVec F S128x256 .f32) (rest : Pr F) : Pr F :=
  putAt (oW 0 (peer c r)) (inW 0 (peer c r)) (oW 1 (peer c r)) (inW 1 (peer c r)) (o4 (peer c r) k) (in4 _ k)
    (stores4 wholeSQ (packed4 _ k)) (o4 (peer c r) k) (in4 _ k) (exact4 wholeSQ (words4 _ k)) (o4 c k) (in4 c k)
    (exact4 wholeRQ (words4 c k)) (o2 (peer c r) k) (inS _ k) (o2 c k) (inS c k) (peer c r) a b rest

def own (c : Dev nD) (a b : FVec F S128x256 .f32) (rest : FVec F S128x128 .f32 → Pr F) : Pr F :=
  ownAt (oW 0 c) (inW 0 c) (oW 1 c) (inW 1 c) a b rest

def wait1 (c : Dev nD) (k : Fin 4) (r : Fin 3) (rest : Pr F) : Pr F :=
  waitAt cc0_scratch5 (o2 (peer c r) k) (inS _ k) (s4 SQ (peer c r) k) (exact4 wholeSQ (words4 _ k))
    (s4 RQ (peer c r) k) (exact4 wholeRQ (words4 _ k)) rest

def sum (c : Dev nD) (k : Fin 4) (m : FVec F S128x128 .f32) (rest : FVec F S128x128 .f32 → Pr F) : Pr F :=
  sumAt (o4 (peer c 1) k) (in4 _ k) (o4 (peer c 0) k) (in4 _ k) (o4 (peer c 2) k) (in4 _ k) (o3 k) (in3 k)
    (stores3 (packed3 k)) m rest

def share (c : Dev nD) (k : Fin 4) (r : Fin 3) (rest : Pr F) : Pr F :=
  shareAt (o3 k) (in3 k) (exact3 (words3 k)) (o4 c k) (in4 c k) (exact4 wholeRB (words4 c k)) (o2 (peer c r) k) (inS _ k)
    (o2 c k) (inS c k) (peer c r) rest

def keep (c : Dev nD) (k : Fin 4) (v : FVec F S128x128 .f32) (rest : Pr F) : Pr F :=
  keepAt (oO k c) (inO k c) v rest

/-- One chunk of the second exchange: the three copies received, the total stored, copied to the peers and kept. -/
def chunk (c : Dev nD) (k : Fin 4) (m : FVec F S128x128 .f32) (rest : Pr F) : Pr F :=
  rs.foldr (fun r rest => wait1 c k r rest) <| sum c k m fun q => rs.foldr (fun r rest => share c k r rest) <| keep c k q rest

def wait2 (c : Dev nD) (k : Fin 4) (r : Fin 3) (rest : Pr F) : Pr F :=
  waitAt cc0_scratch7 (o2 (peer c r) k) (inS _ k) (s3 k) (exact3 (words3 k))
    (s4 RB (peer c r) k) (exact4 wholeRB (words4 _ k)) rest

def gather (c : Dev nD) (k : Fin 4) (r : Fin 3) (rest : Pr F) : Pr F :=
  gatherAt (o4 (peer c r) k) (in4 _ k) (oO k (peer c r)) (inO k _) rest

def drain1 (c : Dev nD) (k : Fin 4) (r : Fin 3) (rest : Pr F) : Pr F :=
  waitAt cc0_scratch4 (o2 (peer c r) k) (inS _ k) (s4 RQ c k) (exact4 wholeRQ (words4 c k))
    (s4 SQ (peer c r) k) (exact4 wholeSQ (words4 _ k)) rest

def drain2 (c : Dev nD) (k : Fin 4) (r : Fin 3) (rest : Pr F) : Pr F :=
  waitAt cc0_scratch6 (o2 (peer c r) k) (inS _ k) (s4 RB c k) (exact4 wholeRB (words4 c k))
    (s3 k) (exact3 (words3 k)) rest

/-- Four values by chunk. -/
def quad {α : Type _} (x y z w : α) (k : Fin 4) : α := match k with | 0 => x | 1 => y | 2 => z | 3 => w

theorem quad_eta {α : Type _} (f : Fin 4 → α) : quad (f 0) (f 1) (f 2) (f 3) = f := by
  funext k; match k with | 0 => rfl | 1 => rfl | 2 => rfl | 3 => rfl

/-- What follows the exchange of totals: the received blocks stored, and the copies' own semaphores drained. -/
def finish (c : Dev nD) : Pr F :=
  krs.foldr (fun kr rest => wait2 c kr.1 kr.2 (gather c kr.1 kr.2 rest)) <|
  krs.foldr (fun kr rest => drain1 c kr.1 kr.2 rest) <|
  krs.foldr (fun kr rest => drain2 c kr.1 kr.2 rest) <| .ret ⟨⟩

/-- The part of the body that has both experts' rows `a` and `b`, by chunk. -/
def work (c : Dev nD) (a b : Fin 4 → FVec F S128x256 .f32) : Pr F :=
  krs.foldr (fun kr rest => put c kr.1 kr.2 (a kr.1) (b kr.1) rest) <|
  own c (a 0) (b 0) fun m0 => own c (a 1) (b 1) fun m1 => own c (a 2) (b 2) fun m2 => own c (a 3) (b 3) fun m3 =>
  ([0, 1, 2, 3] : List (Fin 4)).foldr (fun k rest => chunk c k (quad m0 m1 m2 m3 k) rest) <| finish c

/-- The body on device `c`. -/
def flow (c : Dev nD) : Pr F :=
  shake c <| read 0 fun x0 i0 => read 1 fun x1 i1 => read 2 fun x2 i2 => read 3 fun x3 i3 =>
  work c (fun k => rows0 c (quad x0 x1 x2 x3 k) (quad i0 i1 i2 i3 k)) (fun k => rows1 c (quad x0 x1 x2 x3 k) (quad i0 i1 i2 i3 k))

/-! ## The printed body is `flow` -/

/-- Two groups at equal offsets are equal. -/
theorem putAt_congr {o1 o1' i1 i1' o2 o2' i2 i2' os os' is is' hs hs' od od' id id' hd hd' op op' ip ip' hp hp' ot ot' it it' ou ou' iu iu'}
    {d d' : Dev nD} (h1 : o1 = o1') (h2 : o2 = o2') (hso : os = os') (hdo : od = od') (hpo : op = op') (hto : ot = ot')
    (huo : ou = ou') (hdd : d = d') :
    putAt (F := F) o1 i1 o2 i2 os is hs od id hd op ip hp ot it ou iu d
      = putAt (F := F) o1' i1' o2' i2' os' is' hs' od' id' hd' op' ip' hp' ot' it' ou' iu' d' := by
  subst h1 h2 hso hdo hpo hto huo hdd; rfl

theorem ownAt_congr {o1 o1' i1 i1' o2 o2' i2 i2'} (h1 : o1 = o1') (h2 : o2 = o2') :
    ownAt (F := F) o1 i1 o2 i2 = ownAt (F := F) o1' i1' o2' i2' := by subst h1 h2; rfl

theorem wait44_congr {A : DmaSems sig S4x4} {M N : Memref sig .tc .vmem S4x4x128x128 .bf16} {ot ot' it it' os os' is is' hs hs' od od' id id' hd hd'}
    (h1 : ot = ot') (h2 : os = os') (h3 : od = od') :
    waitAt (F := F) A ot it (slot4 M os is) hs (slot4 N od id) hd = waitAt (F := F) A ot' it' (slot4 M os' is') hs' (slot4 N od' id') hd' := by
  subst h1 h2 h3; rfl

theorem wait34_congr {A : DmaSems sig S4x4} {N : Memref sig .tc .vmem S4x4x128x128 .bf16} {k : Fin 4} {hs : (s3 k).view.WordExact} {ot ot' it it' od od' id id' hd hd'}
    (h1 : ot = ot') (h3 : od = od') :
    waitAt (F := F) A ot it (s3 k) hs (slot4 N od id) hd = waitAt (F := F) A ot' it' (s3 k) hs (slot4 N od' id') hd' := by
  subst h1 h3; rfl

theorem wait43_congr {A : DmaSems sig S4x4} {N : Memref sig .tc .vmem S4x4x128x128 .bf16} {k : Fin 4} {hs : (s3 k).view.WordExact} {ot ot' it it' od od' id id' hd hd'}
    (h1 : ot = ot') (h3 : od = od') :
    waitAt (F := F) A ot it (slot4 N od id) hd (s3 k) hs = waitAt (F := F) A ot' it' (slot4 N od' id') hd' (s3 k) hs := by
  subst h1 h3; rfl

theorem sumAt_congr {o1 o1' i1 i1' o2 o2' i2 i2' o3 o3' i3 i3'} {ob ib hb} (h1 : o1 = o1') (h2 : o2 = o2') (h3 : o3 = o3') :
    sumAt (F := F) o1 i1 o2 i2 o3 i3 ob ib hb = sumAt (F := F) o1' i1' o2' i2' o3' i3' ob ib hb := by subst h1 h2 h3; rfl

theorem shareAt_congr {ob ib hb op op' ip ip' hp hp' ot ot' it it' ou ou' iu iu'} {d d' : Dev nD} (h1 : op = op') (h2 : ot = ot')
    (h3 : ou = ou') (h4 : d = d') :
    shareAt (F := F) ob ib hb op ip hp ot it ou iu d = shareAt (F := F) ob ib hb op' ip' hp' ot' it' ou' iu' d' := by
  subst h1 h2 h3 h4; rfl

theorem keepAt_congr {oo oo' io io'} (h : oo = oo') : keepAt (F := F) oo io = keepAt (F := F) oo' io' := by subst h; rfl
theorem gatherAt_congr {os os' is is' oo oo' io io'} (h1 : os = os') (h : oo = oo') :
    gatherAt (F := F) os is oo io = gatherAt (F := F) os' is' oo' io' := by subst h1 h; rfl

/-! The groups at the printed offsets. -/

theorem dev1_lt (k : Fin 4) (r : Fin 3) (c : Dev nD) : dev1 k r c < nD := by rw [dev1_eq]; exact (peer c r).isLt
theorem dev2_lt (k : Fin 4) (r : Fin 3) (c : Dev nD) : dev2 k r c < nD := by rw [dev2_eq]; exact (peer c r).isLt

def put0 (c : Dev nD) (k : Fin 4) (r : Fin 3) : FVec F S128x256 .f32 → FVec F S128x256 .f32 → Pr F → Pr F :=
  putAt (k0_off1 c (msk r)) (k0_off1_inb c r) (k0_off2 c (msk r)) (k0_off2_inb c r) (slotO k c r) (slotO_in k c r)
    (stores4 wholeSQ (slotO_packed k c r)) (slotD k c r) (slotD_in k c r) (exact4 wholeSQ (slotD_words k c r)) (slotP k c) (slotP_in k c)
    (exact4 wholeRQ (slotP_words k c)) (semO k c r) (semO_in k c r) (semP k c) (semP_in k c) ⟨dev1 k r c, dev1_lt k r c⟩
def own0 (c : Dev nD) : FVec F S128x256 .f32 → FVec F S128x256 .f32 → (FVec F S128x128 .f32 → Pr F) → Pr F :=
  ownAt (k0_off23 c) (k0_off23_inb c) (k0_off24 c) (k0_off24_inb c)
def wait10 (c : Dev nD) (k : Fin 4) (r : Fin 3) : Pr F → Pr F :=
  waitAt cc0_scratch5 (semO k c r) (semO_in k c r) (slot4 SQ (slotD k c r) (slotD_in k c r)) (exact4 wholeSQ (slotD_words k c r))
    (slot4 RQ (slotD k c r) (slotD_in k c r)) (exact4 wholeRQ (slotD_words k c r))
def sum0 (c : Dev nD) (k : Fin 4) : FVec F S128x128 .f32 → (FVec F S128x128 .f32 → Pr F) → Pr F :=
  sumAt (slotO k c 1) (slotO_in k c 1) (slotO k c 0) (slotO_in k c 0) (slotO k c 2) (slotO_in k c 2) (o3 k) (in3 k) (stores3 (packed3 k))
def share0 (c : Dev nD) (k : Fin 4) (r : Fin 3) : Pr F → Pr F :=
  shareAt (o3 k) (in3 k) (exact3 (words3 k)) (slotP k c) (slotP_in k c) (exact4 wholeRB (slotP_words k c)) (semO k c r) (semO_in k c r)
    (semP k c) (semP_in k c) ⟨dev2 k r c, dev2_lt k r c⟩
def keep0 (c : Dev nD) (k : Fin 4) : FVec F S128x128 .f32 → Pr F → Pr F := keepAt (outO k c) (outO_in k c)
def wait20 (c : Dev nD) (k : Fin 4) (r : Fin 3) : Pr F → Pr F :=
  waitAt cc0_scratch7 (semO k c r) (semO_in k c r) (s3 k) (exact3 (words3 k)) (slot4 RB (slotD k c r) (slotD_in k c r)) (exact4 wholeRB (slotD_words k c r))
def gather0 (c : Dev nD) (k : Fin 4) (r : Fin 3) : Pr F → Pr F :=
  gatherAt (slotO k c r) (slotO_in k c r) (outR k c r) (outR_in k c r)
def drain10 (c : Dev nD) (k : Fin 4) (r : Fin 3) : Pr F → Pr F :=
  waitAt cc0_scratch4 (semO k c r) (semO_in k c r) (slot4 RQ (slotP k c) (slotP_in k c)) (exact4 wholeRQ (slotP_words k c))
    (slot4 SQ (slotD k c r) (slotD_in k c r)) (exact4 wholeSQ (slotD_words k c r))
def drain20 (c : Dev nD) (k : Fin 4) (r : Fin 3) : Pr F → Pr F :=
  waitAt cc0_scratch6 (semO k c r) (semO_in k c r) (slot4 RB (slotP k c) (slotP_in k c)) (exact4 wholeRB (slotP_words k c)) (s3 k) (exact3 (words3 k))
def shake0 (c : Dev nD) (rest : Pr F) : Pr F := do
  semSignalWord (⟨k0_dev1 c, k0_dev1_lt c⟩ : Dev nD) barS 1#32
  semSignalWord (⟨k0_dev2 c, k0_dev2_lt c⟩ : Dev nD) barS 1#32
  semSignalWord (⟨k0_dev3 c, k0_dev3_lt c⟩ : Dev nD) barS 1#32
  semWaitWord barS 3#32
  rest

theorem put_eq : put (F := F) = put0 := by
  funext c k r a b rest
  exact congrFun (congrFun (congrFun (putAt_congr (off1_eq c r).symm (off2_eq c r).symm (slotO_eq k c r).symm (slotD_eq k c r).symm (slotP_eq k c).symm
    (semO_eq k c r).symm (semP_eq k c).symm (Fin.ext (dev1_eq k r c).symm)) a) b) rest
theorem own_eq : own (F := F) = own0 := by
  funext c; exact ownAt_congr (off23_eq c).symm (off24_eq c).symm
theorem wait1_eq : wait1 (F := F) = wait10 := by
  funext c k r; exact wait44_congr (semO_eq k c r).symm (slotD_eq k c r).symm (slotD_eq k c r).symm
theorem sum_eq : sum (F := F) = sum0 := by
  funext c k; exact sumAt_congr (slotO_eq k c 1).symm (slotO_eq k c 0).symm (slotO_eq k c 2).symm
theorem share_eq : share (F := F) = share0 := by
  funext c k r; exact shareAt_congr (slotP_eq k c).symm (semO_eq k c r).symm (semP_eq k c).symm (Fin.ext (dev2_eq k r c).symm)
theorem keep_eq : keep (F := F) = keep0 := by funext c k; exact keepAt_congr (outO_eq k c).symm
theorem wait2_eq : wait2 (F := F) = wait20 := by
  funext c k r; exact wait34_congr (semO_eq k c r).symm (slotD_eq k c r).symm
theorem gather_eq : gather (F := F) = gather0 := by
  funext c k r; exact gatherAt_congr (slotO_eq k c r).symm (outR_eq k c r).symm
theorem drain1_eq : drain1 (F := F) = drain10 := by
  funext c k r; exact wait44_congr (semO_eq k c r).symm (slotP_eq k c).symm (slotD_eq k c r).symm
theorem drain2_eq : drain2 (F := F) = drain20 := by
  funext c k r; exact wait43_congr (semO_eq k c r).symm (slotP_eq k c).symm
theorem devs_eq : ∀ c, k0_dev1 c = (peer c 1).val ∧ k0_dev2 c = (peer c 0).val ∧ k0_dev3 c = (peer c 2).val := by decide +kernel
theorem shake_eq : shake (F := F) = shake0 := by
  funext c rest
  have h1 : peer c 1 = ⟨k0_dev1 c, k0_dev1_lt c⟩ := Fin.ext (devs_eq c).1.symm
  have h2 : peer c 0 = ⟨k0_dev2 c, k0_dev2_lt c⟩ := Fin.ext (devs_eq c).2.1.symm
  have h3 : peer c 2 = ⟨k0_dev3 c, k0_dev3_lt c⟩ := Fin.ext (devs_eq c).2.2.symm
  unfold shake shake0; rw [h1, h2, h3]

set_option maxRecDepth 65536 in
/-- The printed body, on the staged operands and the exchange buffers, reads its device and runs `flow` there. -/
theorem cc0_body_eq_flow :
    cc0_body (F := F) XB (Memref.isWhole_whole _) (Memref.whole cc0_stg1_0) (Memref.isWhole_whole _) IB (Memref.isWhole_whole _)
      WB (Memref.isWhole_whole _) OB (Memref.isWhole_whole _) SQ (Memref.isWhole_whole _) RQ (Memref.isWhole_whole _)
      SB (Memref.isWhole_whole _) RB (Memref.isWhole_whole _) cc0_scratch4 cc0_scratch5 cc0_scratch6 cc0_scratch7
      = .op .deviceId fun c => flow c := by
  unfold flow work finish chunk
  rw [put_eq, own_eq, wait1_eq, sum_eq, share_eq, keep_eq, wait2_eq, gather_eq, drain1_eq, drain2_eq, shake_eq]
  rfl

end Cert.KernelIdeal.Moe

end
-- ==== Proof.Schedule.lean ====
/-
# Who pays what to whom: the kernel's semaphores as rounds of duties

Each semaphore is waited on once, for one round of payments. The barrier semaphore of a device has a duty of one unit
per peer; the peer pays it together with the slots of its own buffers in which the device's copies land. The
semaphores `(t, k)` of the four arrays have one duty each, of a slot's bytes, when `t` is another device: the issuing
side gets its source back, the receiving side the landed matrix. The semaphores `(c, k)` of device `c` itself are not
used.
-/
module

public import proofs.«01_k».proof.Proof.Flow
public import proofs.«01_k».proof.Proof.Gen.KernelIdeal.Frame
public import Idealize.ShloMosaic.Lib.Pipeline.Launch
public import Idealize.ShloMosaic.Lib.Pipeline.Kit
public import Idealize.ShloMosaic.Lib.Pipeline.BigSepL
public import Idealize.ShloMosaic.Lib.VecWindow
public import Idealize.ShloMosaic.Lib.Tactic

@[expose] public section

noncomputable section

namespace Cert.KernelIdeal.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- Duties are named by the device that pays them. -/
abbrev UB : Type := URounds (GSem nD τ sig) (Dev nD)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The semaphores -/

/-- The four arrays: the first exchange's sending and receiving semaphores, then the second's. -/
abbrev arr (a : Fin 4) : DmaSems sig S4x4 :=
  match a with | 0 => cc0_scratch4 | 1 => cc0_scratch5 | 2 => cc0_scratch6 | 3 => cc0_scratch7

/-- An entry of the four arrays: the array, the device and the chunk. -/
abbrev Key : Type := Fin 4 × Dev nD × Fin 4

abbrev semK (x : Key) : DmaSem sig := sm (arr x.1) x.2.1 x.2.2

theorem semK_val : ∀ x : Key, (semK x).val = 5 + 16 * x.1.val + 4 * x.2.1.val + x.2.2.val := by decide +kernel

theorem semK_inj : Function.Injective fun x : Key => (SemLoc.dma (semK x) : SemLoc sig) := by
  intro x y h
  have h' := congrArg Fin.val (SemLoc.dma.inj h)
  rw [semK_val, semK_val] at h'
  obtain ⟨a, t, k⟩ := x
  obtain ⟨b, u, l⟩ := y
  have := a.isLt; have := b.isLt; have ht : t.val < 4 := t.isLt; have hu : u.val < 4 := u.isLt; have := k.isLt; have := l.isLt
  dsimp only at h'
  have h1 : a = b := Fin.ext (by omega)
  have h2 : t = u := Fin.ext (by omega)
  have h3 : k = l := Fin.ext (by omega)
  subst h1 h2 h3; rfl

/-- Which entry a semaphore is. -/
def key : SemLoc sig → Option Key := Function.partialInv fun x : Key => (SemLoc.dma (semK x) : SemLoc sig)

theorem key_dma (x : Key) : key (.dma (semK x)) = some x := Function.partialInv_left semK_inj x

theorem dma_ne_bar (s : DmaSem sig) : (SemLoc.dma s : SemLoc sig) ≠ .reg barS := fun h => by cases h

/-- A semaphore that is staging's, below the arrays, is no entry. -/
theorem key_low (s : DmaSem sig) (h : s.val < 5) : key (.dma s) = none := by
  by_contra hn
  obtain ⟨x, hx⟩ := Option.ne_none_iff_exists'.1 hn
  have := (Function.partialInv_of_injective semK_inj x (.dma s)).1 hx
  have h' := congrArg Fin.val (SemLoc.dma.inj this)
  rw [semK_val] at h'
  omega

/-- A device's barrier semaphore, and its entry `x`. -/
abbrev barC (c : Dev nD) : GSem nD τ sig := ((c : Thread nD τ), .reg barS)
abbrev dmaC (c : Dev nD) (x : Key) : GSem nD τ sig := ((c : Thread nD τ), .dma (semK x))

/-! ## Peers -/

theorem peer_ne : ∀ c r, peer c r ≠ c := by decide +kernel
theorem peer_inj : ∀ c r r', peer c r = peer c r' → r = r' := by decide +kernel

/-- The shares in which a chunk's total is lent to the copies to the three peers, the first visited taking the half. -/
def lent (c t : Dev nD) : PosShare TreeShare :=
  if t = peer c 1 then fullShare.left else if t = peer c 0 then fullShare.right.left else fullShare.right.right

/-! ## What the slots hold -/

/-- Device `c` holds a matrix's elements, at share `q`, with the entries `T`. -/
def hold (c : Dev nD) (M : Memref sig .tc .vmem S128x128 .bf16) (q : PosShare TreeShare) (T : Vec F S128x128 .bf16) : sProp 𝕄 :=
  M.view.loc (c : Thread nD τ) ↦[M.view.set]{q} M.view.rep T

/-- Device `c` holds a matrix's elements at entries nobody cares about. -/
def free (c : Dev nD) (M : Memref sig .tc .vmem S128x128 .bf16) : sProp 𝕄 :=
  iprop(∃ f : Buf (Elt F) (M.view.loc (c : Thread nD τ)), M.view.loc (c : Thread nD τ) ↦[M.view.set]{fullShare} f)

instance hold_storable (c : Dev nD) (M : Memref sig .tc .vmem S128x128 .bf16) (q : PosShare TreeShare) (T : Vec F S128x128 .bf16) :
    BI.Storable (upEmb : UEmb _ 𝕄) (hold c M q T) := by unfold hold; infer_instance
instance free_storable (c : Dev nD) (M : Memref sig .tc .vmem S128x128 .bf16) :
    BI.Storable (upEmb : UEmb _ 𝕄) (free (F := F) c M) := by unfold free; infer_instance

theorem free_of_hold (c : Dev nD) (M : Memref sig .tc .vmem S128x128 .bf16) (T : Vec F S128x128 .bf16) :
    hold c M fullShare T ⊢ (free c M : sProp 𝕄) := by
  unfold hold free; iintro H; iexists _; iexact H

variable (m : (ℓ : Loc nD τ sig) → Buf (Elt F) ℓ) (ρ : Dev nD → PrngReg)

/-- The staged rows, indices and experts' weights of device `c`. -/
def stX (c : Dev nD) : (cc0_stg0_0 : Ref sig .tc).ty.Contents (Elt F) := iblk m c 0 t0_0
def stI (c : Dev nD) : (cc0_stg2_0 : Ref sig .tc).ty.Contents (Elt F) := iblk m c 2 t0_0
def stW (c : Dev nD) : (cc0_stg3_0 : Ref sig .tc).ty.Contents (Elt F) := iblk m c 3 t0_0

/-- Chunk `k` of the rows and of the indices; expert `e`'s columns for the quarter of device `d`. -/
def xk (c : Dev nD) (k : Fin 4) : Vec F S128x256 .f32 := XB.view.readAt (Elt F) (rectX (oR k) (inX k)).toLoadRect (stX m c)
def ik (c : Dev nD) (k : Fin 4) : Vec F S128x1 .i32 := IB.view.readAt (Elt F) (rectI (oR k) (inI k)).toLoadRect (stI m c)
def wq (c : Dev nD) (e : Fin 2) (d : Dev nD) : Vec F S1x256x128 .f32 :=
  WB.view.readAt (Elt F) (rectW (oW e d) (inW e d)).toLoadRect (stW m c)

/-- The rows of chunk `k` for the device's first expert, and for its second. -/
def ra (c : Dev nD) (k : Fin 4) : FVec F S128x256 .f32 := rows0 c (xk m c k) (ik m c k)
def rb (c : Dev nD) (k : Fin 4) : FVec F S128x256 .f32 := rows1 c (xk m c k) (ik m c k)

/-- A block as a matrix, and a matrix as a block. -/
abbrev mat4 (v : Vec F S1x1x128x128 .bf16) : Vec F S128x128 .bf16 := fun x => v (Shape.reshapeEquiv (squeezes_S1x1x128x128_S128x128).numel_eq x)
abbrev mat3 (v : Vec F S1x128x128 .bf16) : Vec F S128x128 .bf16 := fun x => v (Shape.reshapeEquiv (squeezes_S1x128x128_S128x128).numel_eq x)
abbrev blk4 (v : Vec F S128x128 .bf16) : Vec F S1x1x128x128 .bf16 := fun x => v (Shape.reshapeEquiv (squeezes_S1x1x128x128_S128x128).numel_eq.symm x)

/-- What device `s` sends device `d` for chunk `k` in the first exchange. -/
def sent1 (s d : Dev nD) (k : Fin 4) : Vec F S128x128 .bf16 := mat4 (partN (ra m s k) (rb m s k) (wq m s 0 d) (wq m s 1 d))

/-- Device `s`'s own sums of chunk `k`; -/
def mine (s : Dev nD) (k : Fin 4) : FVec F S128x128 .f32 := partW (ra m s k) (rb m s k) (wq m s 0 s) (wq m s 1 s)

/-- its total of chunk `k`; -/
def tot (s : Dev nD) (k : Fin 4) : FVec F S128x128 .f32 :=
  total (mine m s k) (blk4 (sent1 m (peer s 1) s k)) (blk4 (sent1 m (peer s 0) s k)) (blk4 (sent1 m (peer s 2) s k))

/-- and what it sends the others of it. -/
def sent2 (s : Dev nD) (k : Fin 4) : Vec F S128x128 .bf16 :=
  mat3 (totalN (mine m s k) (blk4 (sent1 m (peer s 1) s k)) (blk4 (sent1 m (peer s 0) s k)) (blk4 (sent1 m (peer s 2) s k)))

/-! ## The schedule -/

/-- The credit of a slot's bytes. -/
abbrev N : ℕ := (s3 0).view.dmaCredit
theorem N_pos : 0 < N := View.dmaCredit_pos _ (by decide)

/-- What device `d`'s signal hands device `c`: the slots of `d`'s buffers that `c`'s copies land in. -/
def barPay (c d : Dev nD) : sProp 𝕄 := bigSepL [0, 1, 2, 3] fun k : Fin 4 => iprop(free d (s4 RQ c k) ∗ free d (s4 RB c k))

/-- What entry `(a, t, k)` of device `c` hands it: the first exchange's source back, what device `t` sent in it, the
    second exchange's source back, what device `t` sent in that. -/
def dmaPay (c : Dev nD) (x : Key) : sProp 𝕄 :=
  match x.1 with
  | 0 => free c (s4 SQ x.2.1 x.2.2)
  | 1 => hold c (s4 RQ x.2.1 x.2.2) fullShare (sent1 m x.2.1 c x.2.2)
  | 2 => hold c (s3 x.2.2) (lent c x.2.1) (sent2 m c x.2.2)
  | 3 => hold c (s4 RB x.2.1 x.2.2) fullShare (sent2 m x.2.1 x.2.2)

instance barPay_storable (c d : Dev nD) : BI.Storable (upEmb : UEmb _ 𝕄) (barPay (F := F) c d) := by
  show BI.Storable upEmb iprop((free d (s4 RQ c 0) ∗ free d (s4 RB c 0)) ∗ (free d (s4 RQ c 1) ∗ free d (s4 RB c 1))
    ∗ (free d (s4 RQ c 2) ∗ free d (s4 RB c 2)) ∗ free d (s4 RQ c 3) ∗ free d (s4 RB c 3))
  infer_instance
instance dmaPay_storable (c : Dev nD) (x : Key) : BI.Storable (upEmb : UEmb _ 𝕄) (dmaPay (F := F) m c x) := by
  unfold dmaPay; split <;> infer_instance

/-- The duties of entry `x` of device `c`: none on the unused semaphores, one on the others. -/
def dmaDuties (c : Dev nD) (x : Key) : Finset (Dev nD) := if x.2.1 = c then ∅ else {0}

/-- One round, round 0: a barrier semaphore has one unit from each other device; an entry one duty of a slot's bytes. -/
def sched : Rounds.Schedule (GSem nD τ sig) (Dev nD) 𝕄 where
  duties g r := if r = 0 ∧ g.1.2 = .tc then
      (if g.2 = .reg barS then Finset.univ.erase g.1.1 else
        match key g.2 with
        | some x => dmaDuties g.1.1 x
        | none => ∅)
    else ∅
  unitless _ := False
  amount g _ _ := if g.2 = .reg barS then 1 else N
  payload g _ d := if g.2 = .reg barS then barPay g.1.1 d else
    match key g.2 with
    | some x => dmaPay m g.1.1 x
    | none => iprop(emp)
  amount_pos g _ _ _ := by
    by_cases h : g.2 = .reg barS
    · rw [if_pos h]; exact Nat.one_pos
    · rw [if_neg h]; exact N_pos

instance sched_storable (g : GSem nD τ sig) (r : ℕ) (d : Dev nD) : BI.Storable (upEmb : UEmb _ 𝕄) ((sched (F := F) m).payload g r d) := by
  show BI.Storable upEmb (if g.2 = .reg barS then barPay g.1.1 d else
    match key g.2 with
    | some x => dmaPay m g.1.1 x
    | none => iprop(emp))
  (repeat' split) <;> infer_instance

section Sched
variable (c : Dev nD)

theorem duties_bar : (sched (F := F) m).duties (barC c) 0 = Finset.univ.erase c := by
  dsimp only [sched]; rw [if_pos ⟨rfl, rfl⟩]; exact if_pos rfl
theorem duties_dma (x : Key) : (sched (F := F) m).duties (dmaC c x) 0 = dmaDuties c x := by
  dsimp only [sched]; rw [if_pos ⟨rfl, rfl⟩, if_neg (dma_ne_bar _), key_dma]
theorem duties_later (g : GSem nD τ sig) : ∀ r, 1 ≤ r → (sched (F := F) m).duties g r = ∅ :=
  fun r hr => by dsimp only [sched]; rw [if_neg fun h => by omega]
theorem duties_unused (x : Key) (h : x.2.1 = c) : ∀ r, 0 ≤ r → (sched (F := F) m).duties (dmaC c x) r = ∅ := fun r hr => by
  rcases Nat.eq_zero_or_pos r with rfl | hr
  · rw [duties_dma, dmaDuties, if_pos h]
  · exact duties_later m _ r hr
theorem duties_used (x : Key) (h : x.2.1 ≠ c) : (sched (F := F) m).duties (dmaC c x) 0 = {0} := by rw [duties_dma, dmaDuties, if_neg h]

theorem amount_bar (d : Dev nD) : (sched (F := F) m).amount (barC c) 0 d = 1 := by dsimp only [sched]; exact if_pos rfl
theorem amount_dma (x : Key) (d : Dev nD) : (sched (F := F) m).amount (dmaC c x) 0 d = N := by
  dsimp only [sched]; exact if_neg (dma_ne_bar _)

theorem expect_bar : (sched (F := F) m).expect (barC c) 0 = 3 := by
  unfold Schedule.expect Schedule.amountOf
  rw [duties_bar, Finset.sum_congr rfl fun d _ => amount_bar m c d, Finset.sum_const, Finset.card_erase_of_mem (Finset.mem_univ _),
    Finset.card_univ, Fintype.card_fin, smul_eq_mul]; rfl
theorem expect_dma (x : Key) (h : x.2.1 ≠ c) : (sched (F := F) m).expect (dmaC c x) 0 = N := by
  unfold Schedule.expect Schedule.amountOf; rw [duties_used m c x h, Finset.sum_singleton, amount_dma]

theorem payload_bar (d : Dev nD) : (sched (F := F) m).payload (barC c) 0 d = barPay c d := by dsimp only [sched]; exact if_pos rfl
theorem payload_dma (x : Key) (d : Dev nD) : (sched (F := F) m).payload (dmaC c x) 0 d = dmaPay m c x := by
  dsimp only [sched]; rw [if_neg (dma_ne_bar _), key_dma]

/-- A device's three peers are the other devices, in the order in which it visits them. -/
theorem others_eq : ∀ c : Dev nD, Finset.univ.erase c = (rs.map (peer c)).toFinset := by decide +kernel
theorem others_nodup : ∀ c : Dev nD, (rs.map (peer c)).Nodup := by decide +kernel

theorem rest_bar : bigSep ((sched (F := F) m).duties (barC c) 0 \ ∅) (fun d => (sched (F := F) m).payload (barC c) 0 d)
    = bigSepL rs fun r => barPay c (peer c r) := by
  rw [Finset.sdiff_empty, duties_bar, others_eq, bigSep_eq_bigSepL _ (others_nodup c), bigSepL_map]
  simp only [payload_bar]
theorem rest_dma (x : Key) (h : x.2.1 ≠ c) :
    bigSep ((sched (F := F) m).duties (dmaC c x) 0 \ ∅) (fun d => (sched (F := F) m).payload (dmaC c x) 0 d) = dmaPay m c x := by
  rw [Finset.sdiff_empty, duties_used m c x h, bigSep_singleton, payload_dma]

end Sched

/-! ## What a device owes, and the levels -/

/-- What device `c` owes of the second exchange while the chunks `ks` are still to be copied; -/
def due2 (c : Dev nD) (ks : List (Fin 4)) : CellTallies nD τ sig Unit :=
  ks.foldr (fun k s => rs.foldr (fun r s => s + tallyAt (dmaC (peer c r) (3, c, k)) () N) s) 0

/-- of the first exchange while the pairs `l` are still to be copied, besides all of the second; -/
def due1 (c : Dev nD) (l : List (Fin 4 × Fin 3)) : CellTallies nD τ sig Unit :=
  l.foldr (fun kr s => s + tallyAt (dmaC (peer c kr.2) (1, c, kr.1)) () N) (due2 c [0, 1, 2, 3])

/-- and at launch: the signals to the three peers besides. -/
def due0 (c : Dev nD) (l : List (Fin 3)) : CellTallies nD τ sig Unit :=
  l.foldr (fun r s => s + tallyAt (barC (peer c r)) () 1) (due1 c krs)

def L (g : GSem nD τ sig) : Finset Unit := if g.1.2 = .tc then {()} else ∅

/-- Barriers at 1, the receiving semaphores of the first exchange at 2 and of the second at 3, the others at 0. -/
def lv (g : GSem nD τ sig) (_ : Unit) : ℕ :=
  if g.2 = .reg barS then 1 else
    match key g.2 with
    | some x => if x.1 = 1 then 2 else if x.1 = 3 then 3 else 0
    | none => 0

theorem L_of_ne (g : GSem nD τ sig) (h : g.1.2 ≠ .tc) : L g = ∅ := if_neg h
theorem L_tc (c : Dev nD) (s : SemLoc sig) : L ((c : Thread nD τ), s) = {()} := if_pos rfl
theorem lv_bar (c : Dev nD) : lv (barC c) () = 1 := if_pos rfl
theorem lv_dma (c : Dev nD) (x : Key) : lv (dmaC c x) () = if x.1 = 1 then 2 else if x.1 = 3 then 3 else 0 := by
  unfold lv; rw [if_neg (dma_ne_bar _), key_dma]

/-- Everything owed lies on core semaphores above level `b`. -/
def Above (b : ℕ) (O : CellTallies nD τ sig Unit) : Prop := ∀ g u, 0 < O g u → u ∈ L g ∧ b < lv g u

theorem above_zero (b : ℕ) : Above b 0 := fun g u h => absurd h (Nat.lt_irrefl 0)
theorem above_add {b : ℕ} {O : CellTallies nD τ sig Unit} (hO : Above b O) {c : Dev nD} {s : SemLoc sig} {n : ℕ}
    (h : b < lv ((c : Thread nD τ), s) ()) : Above b (O + tallyAt ((c : Thread nD τ), s) () n) := fun g u hg => by
  rw [Pi.add_apply, Finsupp.add_apply, tallyAt_apply] at hg
  by_cases h' : g = ((c : Thread nD τ), s) ∧ u = ()
  · rw [h'.1, L_tc]; exact ⟨Finset.mem_singleton_self _, h⟩
  · rw [if_neg h'] at hg; exact hO g u hg

theorem above_foldr {ι : Type} {b : ℕ} (f : ι → CellTallies nD τ sig Unit → CellTallies nD τ sig Unit)
    (hf : ∀ i O, Above b O → Above b (f i O)) (l : List ι) {O : CellTallies nD τ sig Unit} (hO : Above b O) : Above b (l.foldr f O) := by
  induction l with
  | nil => exact hO
  | cons i l ih => exact hf i _ ih

theorem above_due2 (c : Dev nD) (ks : List (Fin 4)) (b : ℕ) (hb : b < 3) : Above b (due2 c ks) :=
  above_foldr _ (fun k O hO => above_foldr _ (fun r O hO => above_add hO (by rw [lv_dma]; exact hb)) _ hO) _ (above_zero b)
theorem above_due1 (c : Dev nD) (l : List (Fin 4 × Fin 3)) (b : ℕ) (hb : b < 2) : Above b (due1 c l) :=
  above_foldr _ (fun kr O hO => above_add hO (by rw [lv_dma]; exact hb)) _ (above_due2 c _ b (by omega))
theorem above_due0 (c : Dev nD) (l : List (Fin 3)) (b : ℕ) (hb : b < 1) : Above b (due0 c l) :=
  above_foldr _ (fun r O hO => above_add hO (by rw [lv_bar]; exact hb)) _ (above_due1 c _ b (by omega))

/-- A wait is admitted below everything owed. -/
theorem mayWait_above (c : Dev nD) (s : SemLoc sig) {b : ℕ} {O : CellTallies nD τ sig Unit} (hs : lv ((c : Thread nD τ), s) () ≤ b) (hO : Above b O) :
    (levAts L lv : sProp 𝕄) ⊢ MayWait (c : Thread nD τ) s () O :=
  MayOwe.of_cut (L := L) (lev := lv) b (fun p hp => by rw [Finset.mem_singleton.mp hp, L_tc]; exact Finset.mem_singleton_self _)
    (fun g u hg => (hO g u hg).1) (fun p hp => by rw [Finset.mem_singleton.mp hp]; exact hs) (fun g u hg => (hO g u hg).2)

end Cert.KernelIdeal.Moe

end
-- ==== Proof.Steps.lean ====
/-
# One lemma per repeated group of the kernel's body

Each group of `Flow` at a chunk `k` and a peer `r` takes its resources and hands on those that the following groups
need; `run_fold` runs a whole list of groups.
-/
module

public import proofs.«01_k».proof.Proof.Schedule

@[expose] public section

noncomputable section

namespace Cert.KernelIdeal.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-- A program of device `c` runs to `Q`. -/
abbrev run (c : Dev nD) (p : Pr F) (Q : PUnit → sProp 𝕄) : sProp 𝕄 :=
  wp frame (wpE (defs₀ (F := F)) 𝒱₀ (c : Thread nD τ) none) Set.univ p Q

/-- A list of groups runs if each runs from its own resources `A` and the common ones `I`, which may depend on the groups
    still to come, to its results `B`. -/
theorem run_fold {ι : Type} (c : Dev nD) (R : sProp 𝕄) [BI.Persistent R] (step : ι → Pr F → Pr F) (A B : ι → sProp 𝕄) (I : List ι → sProp 𝕄)
    (h : ∀ i l rest Q, iprop(R ∗ A i ∗ I (i :: l) ∗ ((B i ∗ I l) -∗ run c rest Q)) ⊢ run c (step i rest) Q) (rest : Pr F) (Q : PUnit → sProp 𝕄)
    (l : List ι) :
    iprop(R ∗ bigSepL l A ∗ I l ∗ ((bigSepL l B ∗ I []) -∗ run c rest Q)) ⊢ run c (l.foldr step rest) Q := by
  induction l with
  | nil =>
    iintro ⟨-, -, HI, Hk⟩
    iapply Hk
    isplitr; · rw [bigSepL_nil]; iempintro
    iexact HI
  | cons i l ih =>
    rw [bigSepL_cons', bigSepL_cons']
    iintro ⟨#HR, ⟨Ha, HA⟩, HI, Hk⟩
    iapply (h i l (l.foldr step rest) Q)
    isplitr; · iexact HR
    isplitl [Ha]; · iexact Ha
    isplitl [HI]; · iexact HI
    iintro ⟨Hb, HI⟩
    iapply ih
    isplitr; · iexact HR
    isplitl [HA]; · iexact HA
    isplitl [HI]; · iexact HI
    iintro ⟨HB, HI⟩
    iapply Hk
    isplitl [Hb HB]; · isplitl [Hb] <;> iassumption
    iexact HI

/-! ## Slots, through their matrices -/

section Slots
variable (M : Memref sig .tc .vmem S4x4x128x128 .bf16) (o : Fin 4 → Nat) (i : In4 o) (ob : Fin 3 → Nat) (ib : In3 ob)

theorem set4 : (M.access (rect4 o i)).set = (slot4 M o i).view.set := (View.set_reshape _ _).symm
theorem set3 : (SB.access (rect3 ob ib)).set = (slot3 ob ib).view.set := (View.set_reshape _ _).symm

/-- A slot whose matrix has the entries `T` reads as `T`'s block. -/
theorem load4 (T : Vec F S128x128 .bf16) :
    (M.access (rect4 o i)).read (Elt F) ((slot4 M o i).view.rep T) = blk4 T := by
  funext y
  have h := congrFun (View.read_rep (Val := Elt F) (slot4 M o i).view T) (Shape.reshapeEquiv (squeezes_S1x1x128x128_S128x128).numel_eq.symm y)
  refine Eq.trans ?_ h
  show _ = (M.access (rect4 o i)).read (Elt F) _ (Shape.reshapeEquiv _ (Shape.reshapeEquiv _ y))
  rw [Shape.reshapeEquiv_reshapeEquiv, Shape.reshapeEquiv_self]

end Slots

variable (m : (ℓ : Loc nD τ sig) → Buf (Elt F) ℓ) (ρ : Dev nD → PrngReg)

/-! ## The invariants of all semaphores -/

/-- A device's semaphores: the barrier and the entries. -/
abbrev csem : Option Key → SemLoc sig | none => .reg barS | some x => .dma (semK x)
abbrev kcell (ck : Dev nD × Option Key) : GSem nD τ sig := ((ck.1 : Thread nD τ), csem ck.2)

/-- Every semaphore's invariant, under the names `K`, and that each has reached round 0. -/
def recs (K : Dev nD × Option Key → ℕ) : sProp 𝕄 :=
  iprop((bigSep Finset.univ fun ck : Dev nD × Option Key => cellInv ER (sched m) (K ck) (kcell ck))
    ∗ (bigSep Finset.univ fun ck : Dev nD × Option Key => reached ER (kcell ck) 0) ∗ levAts L lv)

instance recs_persistent (K : Dev nD × Option Key → ℕ) : BI.Persistent (recs m K) := by unfold recs; infer_instance

variable (K : Dev nD × Option Key → ℕ)

theorem recs_inv (ck : Dev nD × Option Key) : recs m K ⊢ cellInv ER (sched m) (K ck) (kcell ck) := by
  unfold recs; iintro ⟨H, -, -⟩
  have h : (bigSep Finset.univ fun ck : Dev nD × Option Key => (cellInv ER (sched m) (K ck) (kcell ck) : sProp 𝕄)) ⊢ cellInv ER (sched m) (K ck) (kcell ck) :=
    bigSep_elim (Finset.mem_univ ck)
  iapply h; iexact H
theorem recs_reached (ck : Dev nD × Option Key) : recs m K ⊢ (reached ER (kcell ck) 0 : sProp 𝕄) := by
  unfold recs; iintro ⟨-, H, -⟩
  have h : (bigSep Finset.univ fun ck : Dev nD × Option Key => (reached ER (kcell ck) 0 : sProp 𝕄)) ⊢ reached ER (kcell ck) 0 :=
    bigSep_elim (Finset.mem_univ ck)
  iapply h; iexact H
theorem recs_lev : recs m K ⊢ (levAts L lv : sProp 𝕄) := by
  unfold recs; iintro ⟨-, -, H⟩; iexact H

/-- What device `c` owes, whatever it has waited for. -/
def owing (c : Dev nD) (O : CellTallies nD τ sig Unit) : sProp 𝕄 := iprop(∃ W, owes (c : Thread nD τ) O W)

/-- A staged buffer, whole. -/
abbrev stg (c : Dev nD) (b : Ref sig .tc) (X : b.ty.Contents (Elt F)) : sProp 𝕄 := (((c : Thread nD τ).loc b) ↦{fullShare} X)

/-! ## Waits -/

/-- A wait on entry `x`: its payment comes in and its counter is back at zero. -/
theorem wp_entry (c : Dev nD) (x : Key) (h : x.2.1 ≠ c) {src dst : Memref sig .tc .vmem S128x128 .bf16} {hs : src.view.WordExact} {hd : dst.view.WordExact}
    (hN : dst.view.dmaCredit = N) {O : CellTallies nD τ sig Unit} {b : ℕ} (hb : lv (dmaC c x) () ≤ b) (hO : Above b O) (rest : Pr F)
    (Q : PUnit → sProp 𝕄) :
    iprop(recs m K ∗ cred (tallyAt (dmaC c x) () N) ∗ atPos ER (dmaC c x) 0 ∅ 0 ∗ owing c O
        ∗ ((semVal (dmaC c x) 0 ∗ dmaPay m c x ∗ owing c O) -∗ run c rest Q))
      ⊢ run c (.op (.waitDma2 (semK x) src dst hs hd) fun _ => rest) Q := by
  unfold owing
  iintro ⟨#HR, Hc, Ha, ⟨%W, HO⟩, Hk⟩
  ihave #HI := (recs_inv m K (c, some x)) $$ HR
  iapply (Rounds.wp_wait_rest_token 𝒱₀ ER (sched m) (c : Thread nD τ) none (κ := K (c, some x))
      (wpE_waitDma2_eq 𝒱₀ (c : Thread nD τ) none Set.univ) (Set.mem_univ _) () (O := O) (W := W) (R := 0) (m := 0) (T := ∅)
      (by rw [Nat.zero_add, hN, expect_dma m c x h])) $$ [Hc HO Ha]
  · isplitr; · iexact HI
    isplitl [Hc]; · rw [hN]; iexact Hc
    isplitl [HO]; · iexact HO
    isplitr; · iapply (mayWait_above c (.dma (semK x)) hb hO); iapply (recs_lev m K); iexact HR
    iexact Ha
  iintro ⟨HO, Ha, -, Hpay⟩
  ihave Hp := (Entails.of_eq (rest_dma m c x h)) $$ Hpay
  imod (Rounds.cell_close ER (sched m) (Set.mem_univ (K (c, some x))) (fun h => h) (R := 0 + 1) (duties_later m (dmaC c x))) $$ [Ha] with Hz
  · isplitr; · iexact HI
    iexact Ha
  iapply Hk
  isplitl [Hz]; · iexact Hz
  isplitl [Hp]; · iexact Hp
  iexists _; iexact HO

theorem credit4 (M : Memref sig .tc .vmem S4x4x128x128 .bf16) (o : Fin 4 → Nat) (i : In4 o) : (slot4 M o i).view.dmaCredit = N := rfl
theorem credit3 (o : Fin 3 → Nat) (i : In3 o) : (slot3 o i).view.dmaCredit = N := rfl

/-- What the entries hand over, array by array. -/
theorem pay0 (c t : Dev nD) (k : Fin 4) : dmaPay m c (0, t, k) = free c (s4 SQ t k) := rfl
theorem pay1 (c t : Dev nD) (k : Fin 4) : dmaPay m c (1, t, k) = hold c (s4 RQ t k) fullShare (sent1 m t c k) := rfl
theorem pay2 (c t : Dev nD) (k : Fin 4) : dmaPay m c (2, t, k) = hold c (s3 k) (lent c t) (sent2 m c k) := rfl
theorem pay3 (c t : Dev nD) (k : Fin 4) : dmaPay m c (3, t, k) = hold c (s4 RB t k) fullShare (sent2 m t k) := rfl

theorem wp_wait1 (c : Dev nD) (k : Fin 4) (r : Fin 3) {O : CellTallies nD τ sig Unit} (hO : Above 2 O) (rest : Pr F) (Q : PUnit → sProp 𝕄) :
    iprop(recs m K ∗ (cred (tallyAt (dmaC c (1, peer c r, k)) () N) ∗ atPos ER (dmaC c (1, peer c r, k)) 0 ∅ 0) ∗ owing c O
        ∗ (((semVal (dmaC c (1, peer c r, k)) 0 ∗ hold c (s4 RQ (peer c r) k) fullShare (sent1 m (peer c r) c k)) ∗ owing c O) -∗ run c rest Q))
      ⊢ run c (wait1 c k r rest) Q := by
  iintro ⟨#HR, ⟨Hc, Ha⟩, HO, Hk⟩
  iapply (wp_entry m K c (1, peer c r, k) (peer_ne c r) (credit4 _ _ _) (by rw [lv_dma]; exact le_refl 2) hO rest Q)
  isplitr; · iexact HR
  isplitl [Hc]; · iexact Hc
  isplitl [Ha]; · iexact Ha
  isplitl [HO]; · iexact HO
  iintro ⟨Hz, Hp, HO⟩
  iapply Hk
  isplitr [HO]
  · isplitl [Hz]; · iexact Hz
    iapply (Entails.of_eq (pay1 m c (peer c r) k)); iexact Hp
  iexact HO

theorem wp_wait2 (c : Dev nD) (k : Fin 4) (r : Fin 3) (rest : Pr F) (Q : PUnit → sProp 𝕄) :
    iprop(recs m K ∗ (cred (tallyAt (dmaC c (3, peer c r, k)) () N) ∗ atPos ER (dmaC c (3, peer c r, k)) 0 ∅ 0) ∗ owing c 0
        ∗ (((semVal (dmaC c (3, peer c r, k)) 0 ∗ hold c (s4 RB (peer c r) k) fullShare (sent2 m (peer c r) k)) ∗ owing c 0) -∗ run c rest Q))
      ⊢ run c (wait2 c k r rest) Q := by
  iintro ⟨#HR, ⟨Hc, Ha⟩, HO, Hk⟩
  iapply (wp_entry m K c (3, peer c r, k) (peer_ne c r) (credit4 _ _ _) (le_refl _) (above_zero _) rest Q)
  isplitr; · iexact HR
  isplitl [Hc]; · iexact Hc
  isplitl [Ha]; · iexact Ha
  isplitl [HO]; · iexact HO
  iintro ⟨Hz, Hp, HO⟩
  iapply Hk
  isplitr [HO]
  · isplitl [Hz]; · iexact Hz
    iapply (Entails.of_eq (pay3 m c (peer c r) k)); iexact Hp
  iexact HO

theorem wp_drain1 (c : Dev nD) (k : Fin 4) (r : Fin 3) (rest : Pr F) (Q : PUnit → sProp 𝕄) :
    iprop(recs m K ∗ (cred (tallyAt (dmaC c (0, peer c r, k)) () N) ∗ atPos ER (dmaC c (0, peer c r, k)) 0 ∅ 0) ∗ owing c 0
        ∗ (((semVal (dmaC c (0, peer c r, k)) 0 ∗ free c (s4 SQ (peer c r) k)) ∗ owing c 0) -∗ run c rest Q))
      ⊢ run c (drain1 c k r rest) Q := by
  iintro ⟨#HR, ⟨Hc, Ha⟩, HO, Hk⟩
  iapply (wp_entry m K c (0, peer c r, k) (peer_ne c r) (credit4 _ _ _) (le_refl _) (above_zero _) rest Q)
  isplitr; · iexact HR
  isplitl [Hc]; · iexact Hc
  isplitl [Ha]; · iexact Ha
  isplitl [HO]; · iexact HO
  iintro ⟨Hz, Hp, HO⟩
  iapply Hk
  isplitr [HO]
  · isplitl [Hz]; · iexact Hz
    iapply (Entails.of_eq (pay0 m c (peer c r) k)); iexact Hp
  iexact HO

theorem wp_drain2 (c : Dev nD) (k : Fin 4) (r : Fin 3) (rest : Pr F) (Q : PUnit → sProp 𝕄) :
    iprop(recs m K ∗ (cred (tallyAt (dmaC c (2, peer c r, k)) () N) ∗ atPos ER (dmaC c (2, peer c r, k)) 0 ∅ 0) ∗ owing c 0
        ∗ (((semVal (dmaC c (2, peer c r, k)) 0 ∗ hold c (s3 k) (lent c (peer c r)) (sent2 m c k)) ∗ owing c 0) -∗ run c rest Q))
      ⊢ run c (drain2 c k r rest) Q := by
  iintro ⟨#HR, ⟨Hc, Ha⟩, HO, Hk⟩
  iapply (wp_entry m K c (2, peer c r, k) (peer_ne c r) (credit3 _ _) (le_refl _) (above_zero _) rest Q)
  isplitr; · iexact HR
  isplitl [Hc]; · iexact Hc
  isplitl [Ha]; · iexact Ha
  isplitl [HO]; · iexact HO
  iintro ⟨Hz, Hp, HO⟩
  iapply Hk
  isplitr [HO]
  · isplitl [Hz]; · iexact Hz
    iapply (Entails.of_eq (pay2 m c (peer c r) k)); iexact Hp
  iexact HO

/-! ## Copies -/

/-- A copy from a matrix that device `c` holds to one that device `d` has given it. -/
theorem wp_copy (c d : Dev nD) (x y : Key) (hx : x.2.1 ≠ c) (hy : y.2.1 ≠ d) {src dst : Memref sig .tc .vmem S128x128 .bf16}
    {hsc : (dst : Memref sig (Dev.tc d : Thread nD τ).2.kind .vmem S128x128 .bf16).view.ref.isScScratch = false}
    {hs : src.view.WordExact} {hd : dst.view.WordExact}
    {ht : DmaTarget.Typed .vmem (.dma (semK y)) (.remote (Dev.tc d : Thread nD τ) dst (.dma (semK x)) hsc)}
    (hN : dst.view.dmaCredit = N) (q : PosShare TreeShare) (T : Vec F S128x128 .bf16)
    (h1 : hold c src q T ⊢ dmaPay m c x) (h2 : hold d dst fullShare T ⊢ dmaPay m d y) {O : CellTallies nD τ sig Unit} (rest : Pr F) (Q : PUnit → sProp 𝕄) :
    iprop(recs m K ∗ hold c src q T ∗ free d dst ∗ dutyTok ER (dmaC c x) 0 0 ∗ dutyTok ER (dmaC d y) 0 0 ∗ owing c (O + tallyAt (dmaC d y) () N)
        ∗ ((cred (tallyAt (dmaC c x) () N) ∗ owing c O) -∗ run c rest Q))
      ⊢ run c (.op (.enqueueDma src (.remote (Dev.tc d : Thread nD τ) dst (.dma (semK x)) hsc) (.dma (semK y)) hs hd ht) fun _ => rest) Q := by
  unfold owing free
  iintro ⟨#HR, Hs, ⟨%fd, Hd⟩, Ht1, Ht2, ⟨%W, HO⟩, Hk⟩
  iapply (Rounds.wp_send_pointsTo 𝒱₀ ER (sched m) (c : Thread nD τ) none (κ₁ := K (c, some x)) (κ₂ := K (d, some y))
      (c' := (Dev.tc d : Thread nD τ)) (src := src) (dst := dst)
      (r₁ := 0) (r₂ := 0) (d₁ := (0 : Dev nD)) (d₂ := (0 : Dev nD)) (q := q) (fs := src.view.rep T) (fd := fd)
      (by rw [duties_used m c x hx]; exact Finset.mem_singleton_self _) (by rw [duties_used m d y hy]; exact Finset.mem_singleton_self _)
      () () N (sem := .dma (semK y)) hN (amount_dma m c x 0) (amount_dma m d y 0) O rfl (W := W)
      (by rw [payload_dma]; exact h1)
      (by
        rw [payload_dma]
        refine BI.Entails.trans ?_ h2
        unfold hold
        exact pointsTo_rep_of_read (Dev.tc d : Thread nD τ) dst _ _ T (by rw [View.read_write_univ, View.read_rep])))
    $$ [Hs Hd HO Ht1 Ht2]
  · isplitr; · iapply (recs_inv m K (c, some x)); iexact HR
    isplitr; · iapply (recs_inv m K (d, some y)); iexact HR
    isplitl [Hs]; · unfold hold; iexact Hs
    isplitl [Hd]; · iexact Hd
    isplitl [HO]; · iexact HO
    isplitl [Ht1]; · iexact Ht1
    isplitr; · iapply (recs_reached m K (c, some x)); iexact HR
    isplitl [Ht2]; · iexact Ht2
    iapply (recs_reached m K (d, some y)); iexact HR
  iintro ⟨Hc, HO⟩
  iapply Hk
  isplitl [Hc]; · iexact Hc
  iexists _; iexact HO

/-! ## The groups of the first exchange -/

theorem slotSet4 (M : Memref sig .tc .vmem S4x4x128x128 .bf16) (o : Fin 4 → Nat) (i : In4 o) :
    M.view.setOn (rect4 o i).toLoadRect.set ⊆ (slot4 M o i).view.set := by
  rw [← set4, View.set_slice]; exact Finset.Subset.refl _

/-- Storing a block in a slot leaves the slot's matrix with the block's entries. -/
theorem stored4 (c : Dev nD) (M : Memref sig .tc .vmem S4x4x128x128 .bf16) (o : Fin 4 → Nat) (i : In4 o) (p : Vec F S1x1x128x128 .bf16)
    (f : Buf (Elt F) ((slot4 M o i).view.loc (c : Thread nD τ))) :
    ((slot4 M o i).view.loc (c : Thread nD τ) ↦[(slot4 M o i).view.set]{fullShare} ((M.access (rect4 o i)).write (Elt F) f p Finset.univ) : sProp 𝕄)
      ⊢ hold c (slot4 M o i) fullShare (mat4 p) :=
  pointsTo_rep_of_read (c : Thread nD τ) (slot4 M o i) _ _ _ (funext fun x =>
    congrFun (View.read_write_univ (Val := Elt F) (v := M.access (rect4 o i)) f p) (Shape.reshapeEquiv (squeezes_S1x1x128x128_S128x128).numel_eq x))

theorem stored3 (c : Dev nD) (o : Fin 3 → Nat) (i : In3 o) (p : Vec F S1x128x128 .bf16)
    (f : Buf (Elt F) ((slot3 o i).view.loc (c : Thread nD τ))) :
    ((slot3 o i).view.loc (c : Thread nD τ) ↦[(slot3 o i).view.set]{fullShare} ((SB.access (rect3 o i)).write (Elt F) f p Finset.univ) : sProp 𝕄)
      ⊢ hold c (slot3 o i) fullShare (mat3 p) :=
  pointsTo_rep_of_read (c : Thread nD τ) (slot3 o i) _ _ _ (funext fun x =>
    congrFun (View.read_write_univ (Val := Elt F) (v := SB.access (rect3 o i)) f p) (Shape.reshapeEquiv (squeezes_S1x128x128_S128x128).numel_eq x))

/-- Loading a slot's block. -/
theorem wp_block (c : Dev nD) (M : Memref sig .tc .vmem S4x4x128x128 .bf16) (o : Fin 4 → Nat) (i : In4 o) {hl : M.view.LoadsAt (rect4 o i).toLoadRect}
    (q : PosShare TreeShare) (T : Vec F S128x128 .bf16) (k : Vec F S1x1x128x128 .bf16 → Pr F) (Q : PUnit → sProp 𝕄) :
    iprop(hold c (slot4 M o i) q T ∗ (hold c (slot4 M o i) q T -∗ run c (k (blk4 T)) Q)) ⊢ run c (.op (.load M (rect4 o i).toLoadRect hl) k) Q := by
  unfold hold
  iintro ⟨H, Hk⟩
  have h : M.view.readAt (Elt F) (rect4 o i).toLoadRect ((slot4 M o i).view.rep T) = blk4 T := load4 M o i T
  rw [← h]
  iapply (wp_load 𝒱₀ (c : Thread nD τ) none Set.univ (m := M) (slotSet4 M o i)) $$ H
  iintro H
  iapply Hk; iexact H

theorem wp_read (c : Dev nD) (k : Fin 4) (rest : Vec F S128x256 .f32 → Vec F S128x1 .i32 → Pr F) (Q : PUnit → sProp 𝕄) :
    iprop(stg c cc0_stg0_0 (stX m c) ∗ stg c cc0_stg2_0 (stI m c)
        ∗ ((stg c cc0_stg0_0 (stX m c) ∗ stg c cc0_stg2_0 (stI m c)) -∗ run c (rest (xk m c k) (ik m c k)) Q))
      ⊢ run c (read k rest) Q := by
  iintro ⟨HX, HI, Hk⟩
  unfold read readAt
  simp only [Prog.lift, Prog.bind_op, Prog.bind_ret]
  iapply (wp_load 𝒱₀ (c : Thread nD τ) none Set.univ (m := XB) (Finset.subset_univ _)) $$ HX; iintro HX
  iapply (wp_load 𝒱₀ (c : Thread nD τ) none Set.univ (m := IB) (Finset.subset_univ _)) $$ HI; iintro HI
  iapply Hk
  isplitl [HX]; · iexact HX
  iexact HI

theorem wp_own (c : Dev nD) (k : Fin 4) (rest : FVec F S128x128 .f32 → Pr F) (Q : PUnit → sProp 𝕄) :
    iprop(stg c cc0_stg3_0 (stW m c) ∗ (stg c cc0_stg3_0 (stW m c) -∗ run c (rest (mine m c k)) Q))
      ⊢ run c (own c (ra m c k) (rb m c k) rest) Q := by
  iintro ⟨HW, Hk⟩
  unfold own ownAt
  simp only [Prog.lift, Prog.bind_op, Prog.bind_ret]
  iapply (wp_load 𝒱₀ (c : Thread nD τ) none Set.univ (m := WB) (Finset.subset_univ _)) $$ HW; iintro HW
  iapply (wp_load 𝒱₀ (c : Thread nD τ) none Set.univ (m := WB) (Finset.subset_univ _)) $$ HW; iintro HW
  iapply Hk
  iexact HW

/-- A slot computed, stored and copied to the peer. -/
theorem wp_put (c : Dev nD) (k : Fin 4) (r : Fin 3) {O : CellTallies nD τ sig Unit} (rest : Pr F) (Q : PUnit → sProp 𝕄) :
    iprop(recs m K
        ∗ (free c (s4 SQ (peer c r) k) ∗ free (peer c r) (s4 RQ c k) ∗ dutyTok ER (dmaC c (0, peer c r, k)) 0 0
          ∗ dutyTok ER (dmaC (peer c r) (1, c, k)) 0 0)
        ∗ (stg c cc0_stg3_0 (stW m c) ∗ owing c (O + tallyAt (dmaC (peer c r) (1, c, k)) () N))
        ∗ ((cred (tallyAt (dmaC c (0, peer c r, k)) () N) ∗ (stg c cc0_stg3_0 (stW m c) ∗ owing c O)) -∗ run c rest Q))
      ⊢ run c (put c k r (ra m c k) (rb m c k) rest) Q := by
  iintro ⟨#HR, ⟨Hs, Hd, Ht1, Ht2⟩, ⟨HW, HO⟩, Hk⟩
  unfold put putAt
  simp only [Prog.lift, Prog.bind_op, Prog.bind_ret]
  iapply (wp_load 𝒱₀ (c : Thread nD τ) none Set.univ (m := WB) (Finset.subset_univ _)) $$ HW; iintro HW
  iapply (wp_load 𝒱₀ (c : Thread nD τ) none Set.univ (m := WB) (Finset.subset_univ _)) $$ HW; iintro HW
  unfold free
  icases Hs with ⟨%f, Hs⟩
  iapply (wp_load 𝒱₀ (c : Thread nD τ) none Set.univ (m := SQ) (slotSet4 SQ _ _)) $$ Hs; iintro Hs
  iapply (wp_store 𝒱₀ (c : Thread nD τ) none Set.univ (m := SQ) (r := rect4 (o4 (peer c r) k) (in4 _ k)) (Mk := Finset.univ)
    (Finset.Subset.trans (Finset.Subset.refl _) (set4 SQ _ _).subset)) $$ Hs; iintro Hs
  ihave Hs := (stored4 c SQ (o4 (peer c r) k) (in4 _ k) _ f) $$ Hs
  iapply (wp_copy m K c (peer c r) (0, peer c r, k) (1, c, k) (peer_ne c r) (fun h => peer_ne c r h.symm)
    (src := s4 SQ (peer c r) k) (dst := s4 RQ c k) (credit4 _ _ _) fullShare (sent1 m c (peer c r) k)
    (by rw [pay0]; exact free_of_hold c _ _) (by rw [pay1]) rest Q)
  isplitr; · iexact HR
  isplitl [Hs]; · iexact Hs
  isplitl [Hd]; · unfold free; iexact Hd
  isplitl [Ht1]; · iexact Ht1
  isplitl [Ht2]; · iexact Ht2
  isplitl [HO]; · iexact HO
  iintro ⟨Hc, HO⟩
  iapply Hk
  isplitl [Hc]; · iexact Hc
  isplitl [HW]; · iexact HW
  iexact HO

/-! ## The groups of the second exchange -/

theorem slotSet3 (o : Fin 3 → Nat) (i : In3 o) : SB.view.setOn (rect3 o i).toLoadRect.set ⊆ (slot3 o i).view.set := by
  rw [← set3, View.set_slice]; exact Finset.Subset.refl _

/-- The three blocks received added to the device's own, and the total stored. -/
theorem wp_sum (c : Dev nD) (k : Fin 4) (rest : FVec F S128x128 .f32 → Pr F) (Q : PUnit → sProp 𝕄) :
    iprop(hold c (s4 RQ (peer c 1) k) fullShare (sent1 m (peer c 1) c k) ∗ hold c (s4 RQ (peer c 0) k) fullShare (sent1 m (peer c 0) c k)
        ∗ hold c (s4 RQ (peer c 2) k) fullShare (sent1 m (peer c 2) c k) ∗ free c (s3 k)
        ∗ ((hold c (s4 RQ (peer c 1) k) fullShare (sent1 m (peer c 1) c k) ∗ hold c (s4 RQ (peer c 0) k) fullShare (sent1 m (peer c 0) c k)
          ∗ hold c (s4 RQ (peer c 2) k) fullShare (sent1 m (peer c 2) c k) ∗ hold c (s3 k) fullShare (sent2 m c k)) -∗ run c (rest (tot m c k)) Q))
      ⊢ run c (sum c k (mine m c k) rest) Q := by
  iintro ⟨H1, H0, H2, Hb, Hk⟩
  unfold sum sumAt
  simp only [Prog.lift, Prog.bind_op, Prog.bind_ret]
  iapply (wp_block c RQ (o4 (peer c 1) k) (in4 _ k) fullShare (sent1 m (peer c 1) c k))
  isplitl [H1]; · iexact H1
  iintro H1
  iapply (wp_block c RQ (o4 (peer c 0) k) (in4 _ k) fullShare (sent1 m (peer c 0) c k))
  isplitl [H0]; · iexact H0
  iintro H0
  iapply (wp_block c RQ (o4 (peer c 2) k) (in4 _ k) fullShare (sent1 m (peer c 2) c k))
  isplitl [H2]; · iexact H2
  iintro H2
  unfold free
  icases Hb with ⟨%f, Hb⟩
  iapply (wp_load 𝒱₀ (c : Thread nD τ) none Set.univ (m := SB) (slotSet3 _ _)) $$ Hb; iintro Hb
  iapply (wp_store 𝒱₀ (c : Thread nD τ) none Set.univ (m := SB) (r := rect3 (o3 k) (in3 k)) (Mk := Finset.univ) (set3 _ _).subset) $$ Hb; iintro Hb
  ihave Hb := (stored3 c (o3 k) (in3 k) _ f) $$ Hb
  iapply Hk
  isplitl [H1]; · iexact H1
  isplitl [H0]; · iexact H0
  isplitl [H2]; · iexact H2
  iexact Hb

/-- The total copied to a peer. -/
theorem wp_share (c : Dev nD) (k : Fin 4) (r : Fin 3) {O : CellTallies nD τ sig Unit} (rest : Pr F) (Q : PUnit → sProp 𝕄) :
    iprop(recs m K
        ∗ (hold c (s3 k) (lent c (peer c r)) (sent2 m c k) ∗ free (peer c r) (s4 RB c k) ∗ dutyTok ER (dmaC c (2, peer c r, k)) 0 0
          ∗ dutyTok ER (dmaC (peer c r) (3, c, k)) 0 0)
        ∗ owing c (O + tallyAt (dmaC (peer c r) (3, c, k)) () N)
        ∗ ((cred (tallyAt (dmaC c (2, peer c r, k)) () N) ∗ owing c O) -∗ run c rest Q))
      ⊢ run c (share c k r rest) Q := by
  iintro ⟨#HR, ⟨Hs, Hd, Ht1, Ht2⟩, HO, Hk⟩
  unfold share shareAt
  simp only [Prog.lift, Prog.bind_op, Prog.bind_ret]
  iapply (wp_copy m K c (peer c r) (2, peer c r, k) (3, c, k) (peer_ne c r) (fun h => peer_ne c r h.symm)
    (src := s3 k) (dst := s4 RB c k) (credit4 _ _ _) (lent c (peer c r)) (sent2 m c k)
    (by rw [pay2]) (by rw [pay3]) rest Q)
  isplitr; · iexact HR
  isplitl [Hs]; · iexact Hs
  isplitl [Hd]; · iexact Hd
  isplitl [Ht1]; · iexact Ht1
  isplitl [Ht2]; · iexact Ht2
  isplitl [HO]; · iexact HO
  iexact Hk

/-- One block of the result stored. -/
theorem wp_keep (c : Dev nD) (o : Fin 2 → Nat) (i : InO o) (v : FVec F S128x128 .f32) (f : (cc0_stg4_0 : Ref sig .tc).ty.Contents (Elt F))
    (rest : Pr F) (Q : PUnit → sProp 𝕄) :
    iprop(stg c cc0_stg4_0 f ∗ (stg c cc0_stg4_0 ((OB.access (rectO o i)).write (Elt F) f v Finset.univ) -∗ run c rest Q))
      ⊢ run c (keepAt o i v rest) Q := by
  iintro ⟨H, Hk⟩
  unfold keepAt
  simp only [Prog.lift, Prog.bind_op, Prog.bind_ret]
  iapply (wp_load 𝒱₀ (c : Thread nD τ) none Set.univ (m := OB) (Finset.subset_univ _)) $$ H; iintro H
  iapply (wp_store 𝒱₀ (c : Thread nD τ) none Set.univ (m := OB) (r := rectO o i) (Mk := Finset.univ) (Finset.subset_univ _)) $$ H; iintro H
  iapply Hk; iexact H

theorem wp_gather (c : Dev nD) (k : Fin 4) (r : Fin 3) (f : (cc0_stg4_0 : Ref sig .tc).ty.Contents (Elt F)) (rest : Pr F) (Q : PUnit → sProp 𝕄) :
    iprop(hold c (s4 RB (peer c r) k) fullShare (sent2 m (peer c r) k) ∗ stg c cc0_stg4_0 f
        ∗ ((hold c (s4 RB (peer c r) k) fullShare (sent2 m (peer c r) k)
          ∗ stg c cc0_stg4_0 ((OB.access (rectO (oO k (peer c r)) (inO k _))).write (Elt F) f (wide (blk4 (sent2 m (peer c r) k))) Finset.univ)) -∗ run c rest Q))
      ⊢ run c (gather c k r rest) Q := by
  iintro ⟨Hb, H, Hk⟩
  unfold gather gatherAt
  simp only [Prog.lift, Prog.bind_op, Prog.bind_ret]
  iapply (wp_block c RB (o4 (peer c r) k) (in4 _ k) fullShare (sent2 m (peer c r) k))
  isplitl [Hb]; · iexact Hb
  iintro Hb
  iapply (wp_keep c _ _ _ f)
  isplitl [H]; · iexact H
  iintro H
  iapply Hk
  isplitl [Hb]; · iexact Hb
  iexact H

end Cert.KernelIdeal.Moe

end
-- ==== Proof.Body.lean ====
/-
# The kernel's body on one device

From the staged operands, its own buffers, the duties it pays and the credit of the semaphores it waits on, a device's
body runs to the staged result `outAt`, every semaphore of its own back at zero.
-/
module

public import proofs.«01_k».proof.Proof.Steps
public import Idealize.ShloMosaic.Lib.ViewIndex

@[expose] public section

noncomputable section

namespace Cert.KernelIdeal.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Option Key → ℕ)

/-! ## The result, block by block -/

/-- Block `(k, d)` of a staged result: the rows of chunk `k`, the columns of device `d`'s quarter. -/
def block (f : (cc0_stg4_0 : Ref sig .tc).ty.Contents (Elt F)) (k : Fin 4) (d : Dev nD) : FVec F S128x128 .f32 :=
  (OB.access (rectO (oO k d) (inO k d))).read (Elt F) f

/-- A staged result with block `(k, d)` replaced. -/
abbrev setBlock (f : (cc0_stg4_0 : Ref sig .tc).ty.Contents (Elt F)) (k : Fin 4) (d : Dev nD) (v : FVec F S128x128 .f32) :
    (cc0_stg4_0 : Ref sig .tc).ty.Contents (Elt F) :=
  (OB.access (rectO (oO k d) (inO k d))).write (Elt F) f v Finset.univ

theorem block_set (f : (cc0_stg4_0 : Ref sig .tc).ty.Contents (Elt F)) (k : Fin 4) (d : Dev nD) (v : FVec F S128x128 .f32) :
    block (setBlock f k d v) k d = v := View.read_write_univ _ _

theorem quart_apart : ∀ d d' : Dev nD, d ≠ d' → quart d + 128 ≤ quart d' ∨ quart d' + 128 ≤ quart d := by decide +kernel

theorem block_other (f : (cc0_stg4_0 : Ref sig .tc).ty.Contents (Elt F)) (k k' : Fin 4) (d d' : Dev nD) (v : FVec F S128x128 .f32)
    (h : k ≠ k' ∨ d ≠ d') : block (setBlock f k' d' v) k d = block f k d := by
  refine View.read_slice_write_slice_of_disjoint (v := OB.view) (rectO (oO k d) (inO k d)) (rectO (oO k' d') (inO k' d')) f v Finset.univ ?_
  refine (show Disjoint (OB.view.slice (rectO (oO k d) (inO k d))).set (OB.view.slice (rectO (oO k' d') (inO k' d'))).set from
    View.disjoint_slice ?_)
  rcases h with h | h
  · refine Rect.unit_disjoint (0 : Fin 2) ?_
    show k.val * 128 + 128 ≤ k'.val * 128 ∨ k'.val * 128 + 128 ≤ k.val * 128
    have : k.val ≠ k'.val := fun e => h (Fin.ext e)
    omega
  · exact Rect.unit_disjoint (1 : Fin 2) (quart_apart d d' h)

/-- What device `c` has as block `(k, d)`: its own total, or the narrow total of device `d` widened. -/
def outBlk (c : Dev nD) (k : Fin 4) (d : Dev nD) : FVec F S128x128 .f32 :=
  if d = c then tot m c k else wide (blk4 (sent2 m d k))

/-- The chunk of a row, and the device of a column's quarter. -/
def rowChunk (i : S512x512.Idx) : Fin 4 := ⟨(i 0).val / 128, by have : (i 0).val < 512 := (i 0).isLt; omega⟩
def colDev (i : S512x512.Idx) : Dev nD := (![0, 3, 1, 2] : Fin 4 → Fin 4) ⟨(i 1).val / 128, by have : (i 1).val < 512 := (i 1).isLt; omega⟩
/-- The position in its block. -/
def inBlk (i : S512x512.Idx) : S128x128.Idx := fun a => match a with
  | ⟨0, _⟩ => ⟨(i 0).val % 128, Nat.mod_lt _ (by decide)⟩
  | ⟨1, _⟩ => ⟨(i 1).val % 128, Nat.mod_lt _ (by decide)⟩

/-- The staged result of device `c`. -/
def outAt (c : Dev nD) : (cc0_stg4_0 : Ref sig .tc).ty.Contents (Elt F) := fun i => outBlk m c (rowChunk i) (colDev i) (inBlk i)

theorem quart_colDev : ∀ q : Fin 4, quart ((![0, 3, 1, 2] : Fin 4 → Fin 4) q) = q.val * 128 := by decide

theorem at_block (i : S512x512.Idx) : (rectO (oO (rowChunk i) (colDev i)) (inO _ _)).idx (inBlk i) = i := by
  funext a
  have h := quart_colDev ⟨(i 1).val / 128, by have : (i 1).val < 512 := (i 1).isLt; omega⟩
  match a with
  | ⟨0, _⟩ => exact Fin.ext (by show (i 0).val / 128 * 128 + 1 * ((i 0).val % 128) = (i 0).val; omega)
  | ⟨1, _⟩ =>
    exact Fin.ext (by
      show quart (colDev i) + 1 * ((i 1).val % 128) = (i 1).val
      unfold colDev; rw [h]
      show (i 1).val / 128 * 128 + 1 * ((i 1).val % 128) = (i 1).val; omega)

/-- A staged result with the right blocks is `outAt`. -/
theorem eq_outAt (c : Dev nD) (f : (cc0_stg4_0 : Ref sig .tc).ty.Contents (Elt F)) (h : ∀ k d, block f k d = outBlk m c k d) : f = outAt m c := by
  funext i
  unfold outAt
  rw [← h]
  exact congrArg f (at_block i).symm

/-! ## The lists of groups -/

theorem rs_univ {Φ : Fin 3 → sProp 𝕄} : bigSepL rs Φ = bigSep Finset.univ Φ := (bigSep_univ_eq_bigSepL rs (by decide) (by decide) Φ).symm
theorem ks_univ {Φ : Fin 4 → sProp 𝕄} : bigSepL [0, 1, 2, 3] Φ = bigSep Finset.univ Φ :=
  (bigSep_univ_eq_bigSepL [0, 1, 2, 3] (by decide) (by decide) Φ).symm
theorem krs_univ {Φ : Fin 4 × Fin 3 → sProp 𝕄} : bigSepL krs Φ = bigSep Finset.univ Φ := (bigSep_univ_eq_bigSepL krs (by decide) (by decide) Φ).symm

/-- The pairs' resources, chunk by chunk. -/
theorem krs_chunks (Φ : Fin 4 × Fin 3 → sProp 𝕄) : bigSepL krs Φ = bigSepL [0, 1, 2, 3] fun k => bigSepL rs fun r => Φ (k, r) := by
  simp only [rs_univ, ks_univ, krs_univ]; exact bigSep_univ_prod _

/-- The pairs' resources, peer by peer. -/
theorem krs_peers (Φ : Fin 4 × Fin 3 → sProp 𝕄) : bigSepL krs Φ = bigSepL rs fun r => bigSepL [0, 1, 2, 3] fun k => Φ (k, r) := by
  simp only [rs_univ, ks_univ, krs_univ]; rw [bigSep_univ_prod]; exact bigSep_univ_comm _

theorem krs_sep (Φ Ψ : Fin 4 × Fin 3 → sProp 𝕄) : bigSepL krs (fun kr => iprop(Φ kr ∗ Ψ kr)) = iprop(bigSepL krs Φ ∗ bigSepL krs Ψ) := by
  simp only [krs_univ]; exact bigSep_sep' _ _ _

theorem rs_sep (Φ Ψ : Fin 3 → sProp 𝕄) : bigSepL rs (fun r => iprop(Φ r ∗ Ψ r)) = iprop(bigSepL rs Φ ∗ bigSepL rs Ψ) := by
  simp only [rs_univ]; exact bigSep_sep' _ _ _

/-- A device's credit and position at entry `x`: what a wait on it takes. -/
def ready (c : Dev nD) (x : Key) : sProp 𝕄 := iprop(cred (tallyAt (dmaC c x) () N) ∗ atPos ER (dmaC c x) 0 ∅ 0)

/-- The blocks in `S` of a staged result are right. -/
def Done (c : Dev nD) (S : Fin 4 → Dev nD → Prop) (f : (cc0_stg4_0 : Ref sig .tc).ty.Contents (Elt F)) : Prop :=
  ∀ k d, S k d → block f k d = outBlk m c k d

theorem Done.mono {c : Dev nD} {S S' : Fin 4 → Dev nD → Prop} {f : (cc0_stg4_0 : Ref sig .tc).ty.Contents (Elt F)} (h : Done m c S f)
    (hS : ∀ k d, S' k d → S k d) : Done m c S' f := fun k d hd => h k d (hS k d hd)

/-- Storing a right block. -/
theorem Done.set {c : Dev nD} {S S' : Fin 4 → Dev nD → Prop} {f : (cc0_stg4_0 : Ref sig .tc).ty.Contents (Elt F)} (h : Done m c S f) (k : Fin 4) (d : Dev nD)
    (hS : ∀ k' d', S' k' d' → (k' = k ∧ d' = d) ∨ S k' d') : Done m c S' (setBlock f k d (outBlk m c k d)) := fun k' d' hd => by
  by_cases h' : k' = k ∧ d' = d
  · obtain ⟨rfl, rfl⟩ := h'; exact block_set _ _ _ _
  · rw [block_other _ _ _ _ _ _ (by by_contra hn; exact h' ⟨not_not.mp fun e => hn (.inl e), not_not.mp fun e => hn (.inr e)⟩)]
    exact h k' d' ((hS k' d' hd).resolve_left h')

/-- The staged result, the blocks in `S` right. -/
def result (c : Dev nD) (S : Fin 4 → Dev nD → Prop) : sProp 𝕄 := iprop(∃ f, ⌜Done m c S f⌝ ∗ stg c cc0_stg4_0 f)

theorem dev_cases : ∀ c d : Dev nD, d = c ∨ ∃ r, d = peer c r := by decide +kernel

/-! ## The handshake -/

theorem wp_shake (c : Dev nD) (rest : Pr F) (Q : PUnit → sProp 𝕄) :
    iprop(recs m K ∗ (bigSepL rs fun r => iprop(dutyTok ER (barC (peer c r)) 0 c ∗ barPay (peer c r) c)) ∗ cred (tallyAt (barC c) () 3)
        ∗ atPos ER (barC c) 0 ∅ 0 ∗ owing c (due0 c rs)
        ∗ ((semVal (barC c) 0 ∗ (bigSepL rs fun r => barPay c (peer c r)) ∗ owing c (due1 c krs)) -∗ run c rest Q))
      ⊢ run c (shake c rest) Q := by
  unfold owing
  iintro ⟨#HR, Hp, Hc, Ha, ⟨%W, HO⟩, Hk⟩
  ihave Hp := (Entails.of_eq (show (bigSepL rs fun r => iprop(dutyTok ER (barC (peer c r)) 0 c ∗ barPay (F := F) (peer c r) c))
    = iprop((dutyTok ER (barC (peer c 1)) 0 c ∗ barPay (peer c 1) c) ∗ (dutyTok ER (barC (peer c 0)) 0 c ∗ barPay (peer c 0) c)
      ∗ dutyTok ER (barC (peer c 2)) 0 c ∗ barPay (peer c 2) c) from rfl)) $$ Hp
  icases Hp with ⟨⟨Ht1, Hb1⟩, ⟨Ht0, Hb0⟩, Ht2, Hb2⟩
  unfold shake
  simp only [semSignalWord, semWaitWord, Prog.lift, Prog.bind_op, Prog.bind_ret]
  have hd (r : Fin 3) : c ∈ (sched (F := F) m).duties (barC (peer c r)) 0 := by
    rw [duties_bar]; exact Finset.mem_erase.mpr ⟨(peer_ne c r).symm, Finset.mem_univ _⟩
  iapply (Rounds.wp_signal 𝒱₀ ER (sched m) (c : Thread nD τ) none (dst := (peer c 1 : Thread nD τ)) (κ := K (peer c 1, none))
      (d := c) (hd 1) ((amount_bar m (peer c 1) c).trans (by decide)) () (due0 c [0, 2]) rfl) $$ [HO Ht1 Hb1]
  · isplitr; · iapply (recs_inv m K (peer c 1, none)); iexact HR
    isplitl [HO]; · iexact HO
    isplitl [Ht1]; · iexact Ht1
    isplitl [Hb1]; · rw [payload_bar]; iexact Hb1
    iapply (recs_reached m K (peer c 1, none)); iexact HR
  iintro HO
  iapply (Rounds.wp_signal 𝒱₀ ER (sched m) (c : Thread nD τ) none (dst := (peer c 0 : Thread nD τ)) (κ := K (peer c 0, none))
      (d := c) (hd 0) ((amount_bar m (peer c 0) c).trans (by decide)) () (due0 c [2]) rfl) $$ [HO Ht0 Hb0]
  · isplitr; · iapply (recs_inv m K (peer c 0, none)); iexact HR
    isplitl [HO]; · iexact HO
    isplitl [Ht0]; · iexact Ht0
    isplitl [Hb0]; · rw [payload_bar]; iexact Hb0
    iapply (recs_reached m K (peer c 0, none)); iexact HR
  iintro HO
  iapply (Rounds.wp_signal 𝒱₀ ER (sched m) (c : Thread nD τ) none (dst := (peer c 2 : Thread nD τ)) (κ := K (peer c 2, none))
      (d := c) (hd 2) ((amount_bar m (peer c 2) c).trans (by decide)) () (due0 c []) rfl) $$ [HO Ht2 Hb2]
  · isplitr; · iapply (recs_inv m K (peer c 2, none)); iexact HR
    isplitl [HO]; · iexact HO
    isplitl [Ht2]; · iexact Ht2
    isplitl [Hb2]; · rw [payload_bar]; iexact Hb2
    iapply (recs_reached m K (peer c 2, none)); iexact HR
  iintro HO
  iapply (Rounds.wp_wait_rest_token 𝒱₀ ER (sched m) (c : Thread nD τ) none (κ := K (c, none))
      (wpE_semWait_eq 𝒱₀ (c : Thread nD τ) none Set.univ) (Set.mem_univ _) () (O := due1 c krs) (W := W) (R := 0) (m := 0) (T := ∅)
      (by rw [expect_bar]; decide)) $$ [Hc HO Ha]
  · isplitr; · iapply (recs_inv m K (c, none)); iexact HR
    isplitl [Hc]; · iexact Hc
    isplitl [HO]; · iexact HO
    isplitr
    · iapply (mayWait_above c (.reg barS) (b := 1) (by rw [lv_bar]) (above_due1 c krs 1 (by decide))); iapply (recs_lev m K); iexact HR
    iexact Ha
  iintro ⟨HO, Ha, -, Hpay⟩
  ihave Hp := (Entails.of_eq (rest_bar m c)) $$ Hpay
  imod (Rounds.cell_close ER (sched m) (Set.mem_univ (K (c, none))) (fun h => h) (R := 0 + 1) (duties_later m (barC c))) $$ [Ha] with Hz
  · isplitr; · iapply (recs_inv m K (c, none)); iexact HR
    iexact Ha
  iapply Hk
  isplitl [Hz]; · iexact Hz
  isplitl [Hp]; · iexact Hp
  iexists _; iexact HO

/-! ## The second exchange -/

/-- What chunk `k` of the second exchange takes, and what it gives. -/
def chunkIn (c : Dev nD) (k : Fin 4) : sProp 𝕄 :=
  iprop((bigSepL rs fun r => ready c (1, peer c r, k)) ∗ free c (s3 k)
    ∗ bigSepL rs fun r => iprop(free (peer c r) (s4 RB c k) ∗ dutyTok ER (dmaC c (2, peer c r, k)) 0 0 ∗ dutyTok ER (dmaC (peer c r) (3, c, k)) 0 0))
def chunkOut (c : Dev nD) (k : Fin 4) : sProp 𝕄 :=
  iprop((bigSepL rs fun r => iprop(semVal (dmaC c (1, peer c r, k)) 0 ∗ hold c (s4 RQ (peer c r) k) fullShare (sent1 m (peer c r) c k)))
    ∗ bigSepL rs fun r => cred (tallyAt (dmaC c (2, peer c r, k)) () N))

theorem lent_1 : ∀ c : Dev nD, lent c (peer c 1) = fullShare.left := fun c => if_pos rfl
theorem lent_0 : ∀ c : Dev nD, lent c (peer c 0) = fullShare.right.left := fun c => by
  unfold lent; rw [if_neg (fun h => absurd (peer_inj c 0 1 h) (by decide)), if_pos rfl]
theorem lent_2 : ∀ c : Dev nD, lent c (peer c 2) = fullShare.right.right := fun c => by
  unfold lent; rw [if_neg (fun h => absurd (peer_inj c 2 1 h) (by decide)), if_neg (fun h => absurd (peer_inj c 2 0 h) (by decide))]

/-- A chunk's total dealt in three shares, one per peer. -/
theorem hold_lent (c : Dev nD) (M : Memref sig .tc .vmem S128x128 .bf16) (T : Vec F S128x128 .bf16) :
    hold c M fullShare T ⊣⊢ (bigSepL rs fun r => hold c M (lent c (peer c r)) T : sProp 𝕄) := by
  rw [show (bigSepL rs fun r => hold c M (lent c (peer c r)) T : sProp 𝕄)
    = iprop(hold c M (lent c (peer c 1)) T ∗ hold c M (lent c (peer c 0)) T ∗ hold c M (lent c (peer c 2)) T) from rfl, lent_1, lent_0, lent_2]
  unfold hold
  have h1 := pointsTo_share (Ix := Unit) (Name := ℕ) (U := UU) (Lvl := ℕ) (ℓ := M.view.loc (c : Thread nD τ)) (I := M.view.set) (f := M.view.rep T)
    (PosShare.mem_left_op_right fullShare)
  have h2 := pointsTo_share (Ix := Unit) (Name := ℕ) (U := UU) (Lvl := ℕ) (ℓ := M.view.loc (c : Thread nD τ)) (I := M.view.set) (f := M.view.rep T)
    (PosShare.mem_left_op_right fullShare.right)
  exact ⟨h1.1.trans (sep_mono_right h2.1), (sep_mono_right h2.2).trans h1.2⟩

theorem wp_chunk (c : Dev nD) (k : Fin 4) (ks : List (Fin 4)) (rest : Pr F) (Q : PUnit → sProp 𝕄) :
    iprop(recs m K ∗ chunkIn c k ∗ (result m c (fun k' d => d = c ∧ k' ∉ k :: ks) ∗ owing c (due2 c (k :: ks)))
        ∗ ((chunkOut m c k ∗ (result m c (fun k' d => d = c ∧ k' ∉ ks) ∗ owing c (due2 c ks))) -∗ run c rest Q))
      ⊢ run c (chunk c k (mine m c k) rest) Q := by
  unfold chunkIn chunk
  iintro ⟨#HR, ⟨Hw, Hb, Hs⟩, ⟨Hres, HO⟩, Hk⟩
  iapply (run_fold c (recs m K) (fun r rest => wait1 c k r rest) _ _ (fun _ => owing c (due2 c (k :: ks)))
    (fun r _ rest Q => wp_wait1 m K c k r (above_due2 c (k :: ks) 2 (by decide)) rest Q) _ Q rs)
  isplitr; · iexact HR
  isplitl [Hw]; · unfold ready; iexact Hw
  isplitl [HO]; · iexact HO
  iintro ⟨H, HO⟩
  ihave H := (Entails.of_eq (rs_sep (fun r => semVal (dmaC c (1, peer c r, k)) 0)
    (fun r => hold c (s4 RQ (peer c r) k) fullShare (sent1 m (peer c r) c k)))) $$ H
  icases H with ⟨Hz, Hq⟩
  ihave Hq := (Entails.of_eq (show (bigSepL rs fun r => hold c (s4 RQ (peer c r) k) fullShare (sent1 m (peer c r) c k) : sProp 𝕄)
    = iprop(hold c (s4 RQ (peer c 1) k) fullShare (sent1 m (peer c 1) c k) ∗ hold c (s4 RQ (peer c 0) k) fullShare (sent1 m (peer c 0) c k)
      ∗ hold c (s4 RQ (peer c 2) k) fullShare (sent1 m (peer c 2) c k)) from rfl)) $$ Hq
  icases Hq with ⟨H1, H0, H2⟩
  iapply (wp_sum m c k)
  isplitl [H1]; · iexact H1
  isplitl [H0]; · iexact H0
  isplitl [H2]; · iexact H2
  isplitl [Hb]; · iexact Hb
  iintro ⟨H1, H0, H2, Hb⟩
  ihave Hb := ((hold_lent c (s3 k) (sent2 m c k)).1) $$ Hb
  iapply (run_fold c (recs m K) (fun r rest => share c k r rest)
    (fun r => iprop(hold c (s3 k) (lent c (peer c r)) (sent2 m c k) ∗ free (peer c r) (s4 RB c k) ∗ dutyTok ER (dmaC c (2, peer c r, k)) 0 0
          ∗ dutyTok ER (dmaC (peer c r) (3, c, k)) 0 0)) (fun r => cred (tallyAt (dmaC c (2, peer c r, k)) () N))
    (fun l => owing c (l.foldr (fun r s => s + tallyAt (dmaC (peer c r) (3, c, k)) () N) (due2 c ks)))
    (fun r l rest Q => wp_share m K c k r rest Q) _ Q rs)
  isplitr; · iexact HR
  isplitl [Hb Hs]
  · iapply (Entails.of_eq (rs_sep (fun r => hold c (s3 k) (lent c (peer c r)) (sent2 m c k))
      (fun r => iprop(free (peer c r) (s4 RB c k) ∗ dutyTok ER (dmaC c (2, peer c r, k)) 0 0 ∗ dutyTok ER (dmaC (peer c r) (3, c, k)) 0 0))).symm)
    isplitl [Hb]; · iexact Hb
    iexact Hs
  isplitl [HO]; · iexact HO
  iintro ⟨Hc, HO⟩
  unfold result
  icases Hres with ⟨%f, %hf, Hf⟩
  unfold keep
  iapply (wp_keep c (oO k c) (inO k c) (tot m c k) f)
  isplitl [Hf]; · iexact Hf
  iintro Hf
  iapply Hk
  isplitl [Hz H1 H0 H2 Hc]
  · unfold chunkOut
    isplitl [Hz H1 H0 H2]
    · iapply (Entails.of_eq (rs_sep (fun r => semVal (dmaC c (1, peer c r, k)) 0)
        (fun r => hold c (s4 RQ (peer c r) k) fullShare (sent1 m (peer c r) c k))).symm)
      isplitl [Hz]; · iexact Hz
      iapply (Entails.of_eq (show iprop(hold c (s4 RQ (peer c 1) k) fullShare (sent1 m (peer c 1) c k) ∗ hold c (s4 RQ (peer c 0) k) fullShare (sent1 m (peer c 0) c k)
        ∗ hold c (s4 RQ (peer c 2) k) fullShare (sent1 m (peer c 2) c k))
        = (bigSepL rs fun r => hold c (s4 RQ (peer c r) k) fullShare (sent1 m (peer c r) c k) : sProp 𝕄) from rfl))
      isplitl [H1]; · iexact H1
      isplitl [H0]; · iexact H0
      iexact H2
    iexact Hc
  isplitl [Hf]
  · iexists _
    isplitr
    rotate_left
    · iexact Hf
    ipureintro
    have h := hf.set (S' := fun k' d => d = c ∧ k' ∉ ks) m k c (fun k' d' h => by
      by_cases e : k' = k
      · exact .inl ⟨e, h.1⟩
      · exact .inr ⟨h.1, fun hm => (List.mem_cons.mp hm).elim e h.2⟩)
    rw [show outBlk m c k c = tot m c k from if_pos rfl] at h
    exact h
  iexact HO

/-! ## The end -/

theorem wp_finish (c : Dev nD) (Q : PUnit → sProp 𝕄) :
    iprop(recs m K ∗ (bigSepL krs fun kr => ready c (3, peer c kr.2, kr.1)) ∗ (bigSepL krs fun kr => ready c (0, peer c kr.2, kr.1))
        ∗ (bigSepL krs fun kr => ready c (2, peer c kr.2, kr.1)) ∗ result m c (fun _ d => d = c) ∗ owing c 0
        ∗ (((bigSepL krs fun kr => iprop(semVal (dmaC c (3, peer c kr.2, kr.1)) 0 ∗ hold c (s4 RB (peer c kr.2) kr.1) fullShare (sent2 m (peer c kr.2) kr.1)))
          ∗ (bigSepL krs fun kr => iprop(semVal (dmaC c (0, peer c kr.2, kr.1)) 0 ∗ free c (s4 SQ (peer c kr.2) kr.1)))
          ∗ (bigSepL krs fun kr => iprop(semVal (dmaC c (2, peer c kr.2, kr.1)) 0 ∗ hold c (s3 kr.1) (lent c (peer c kr.2)) (sent2 m c kr.1)))
          ∗ stg c cc0_stg4_0 (outAt m c) ∗ owing c 0) -∗ Q ⟨⟩))
      ⊢ run c (finish c) Q := by
  unfold finish
  iintro ⟨#HR, H3, H0, H2, Hres, HO, Hk⟩
  iapply (run_fold c (recs m K) (fun kr rest => wait2 c kr.1 kr.2 (gather c kr.1 kr.2 rest)) (fun kr => ready c (3, peer c kr.2, kr.1))
    (fun kr => iprop(semVal (dmaC c (3, peer c kr.2, kr.1)) 0 ∗ hold c (s4 RB (peer c kr.2) kr.1) fullShare (sent2 m (peer c kr.2) kr.1)))
    (fun l => iprop(result m c (fun k d => d = c ∨ ∃ r, d = peer c r ∧ (k, r) ∉ l) ∗ owing c 0))
    (fun kr l rest Q => ?_) _ Q krs)
  · obtain ⟨k, r⟩ := kr
    unfold ready result
    iintro ⟨#HR, Hw, ⟨⟨%f, %hf, Hf⟩, HO⟩, Hk⟩
    iapply (wp_wait2 m K c k r)
    isplitr; · iexact HR
    isplitl [Hw]; · iexact Hw
    isplitl [HO]; · iexact HO
    iintro ⟨⟨Hz, Hb⟩, HO⟩
    iapply (wp_gather m c k r f)
    isplitl [Hb]; · iexact Hb
    isplitl [Hf]; · iexact Hf
    iintro ⟨Hb, Hf⟩
    iapply Hk
    isplitl [Hz Hb]; · isplitl [Hz] <;> iassumption
    isplitr [HO]
    · iexists _
      isplitr
      rotate_left
      · iexact Hf
      ipureintro
      have h := hf.set (S' := fun k' d => d = c ∨ ∃ r', d = peer c r' ∧ (k', r') ∉ l) m k (peer c r) (fun k' d' h => by
        rcases h with h | ⟨r', h, hn⟩
        · exact .inr (.inl h)
        · by_cases e : k' = k ∧ r' = r
          · obtain ⟨rfl, rfl⟩ := e; exact .inl ⟨rfl, h⟩
          · exact .inr (.inr ⟨r', h, fun hm => (List.mem_cons.mp hm).elim (fun e' => e ⟨congrArg Prod.fst e', congrArg Prod.snd e'⟩) hn⟩))
      rw [show outBlk m c k (peer c r) = wide (blk4 (sent2 m (peer c r) k)) from if_neg (peer_ne c r)] at h
      exact h
    iexact HO
  isplitr; · iexact HR
  isplitl [H3]; · iexact H3
  isplitl [Hres HO]
  · isplitl [Hres]
    · unfold result
      icases Hres with ⟨%f, %hf, Hf⟩
      iexists f
      isplitr; · ipureintro; exact hf.mono m fun k d h => h.resolve_right fun ⟨r, _, hn⟩ => hn ((by decide : ∀ kr : Fin 4 × Fin 3, kr ∈ krs) (k, r))
      iexact Hf
    iexact HO
  iintro ⟨H3, Hres, HO⟩
  iapply (run_fold c (recs m K) (fun kr rest => drain1 c kr.1 kr.2 rest) (fun kr => ready c (0, peer c kr.2, kr.1))
    (fun kr => iprop(semVal (dmaC c (0, peer c kr.2, kr.1)) 0 ∗ free c (s4 SQ (peer c kr.2) kr.1))) (fun _ => owing c 0)
    (fun kr _ rest Q => by unfold ready; exact wp_drain1 m K c kr.1 kr.2 rest Q) _ Q krs)
  isplitr; · iexact HR
  isplitl [H0]; · iexact H0
  isplitl [HO]; · iexact HO
  iintro ⟨H0, HO⟩
  iapply (run_fold c (recs m K) (fun kr rest => drain2 c kr.1 kr.2 rest) (fun kr => ready c (2, peer c kr.2, kr.1))
    (fun kr => iprop(semVal (dmaC c (2, peer c kr.2, kr.1)) 0 ∗ hold c (s3 kr.1) (lent c (peer c kr.2)) (sent2 m c kr.1))) (fun _ => owing c 0)
    (fun kr _ rest Q => by unfold ready; exact wp_drain2 m K c kr.1 kr.2 rest Q) _ Q krs)
  isplitr; · iexact HR
  isplitl [H2]; · iexact H2
  isplitl [HO]; · iexact HO
  iintro ⟨H2, HO⟩
  unfold run
  rw [wp_ret]; imodintro
  iapply Hk
  isplitl [H3]; · iexact H3
  isplitl [H0]; · iexact H0
  isplitl [H2]; · iexact H2
  isplitl [Hres]
  · unfold result
    icases Hres with ⟨%f, %hf, Hf⟩
    rw [← eq_outAt m c f fun k d => hf k d ((dev_cases c d).imp id fun ⟨r, h⟩ => ⟨r, h, List.not_mem_nil⟩)]
    iexact Hf
  iexact HO

/-! ## The whole body -/

theorem ks_sep (Φ Ψ : Fin 4 → sProp 𝕄) :
    bigSepL [0, 1, 2, 3] (fun k => iprop(Φ k ∗ Ψ k)) = iprop(bigSepL [0, 1, 2, 3] Φ ∗ bigSepL [0, 1, 2, 3] Ψ) := by
  simp only [ks_univ]; exact bigSep_sep' _ _ _

/-- Both exchanges' resources, chunk by chunk. -/
theorem chunks_in (c : Dev nD) :
    iprop((bigSepL krs fun kr => ready c (1, peer c kr.2, kr.1)) ∗ (bigSepL [0, 1, 2, 3] fun k => free c (s3 k))
      ∗ (bigSepL krs fun kr => free (peer c kr.2) (s4 RB c kr.1))
      ∗ bigSepL krs fun kr => iprop(dutyTok ER (dmaC c (2, peer c kr.2, kr.1)) 0 0 ∗ dutyTok ER (dmaC (peer c kr.2) (3, c, kr.1)) 0 0))
      ⊢ (bigSepL [0, 1, 2, 3] fun k => chunkIn c k : sProp 𝕄) := by
  unfold chunkIn
  rw [ks_sep, ks_sep, krs_chunks fun kr => ready c (1, peer c kr.2, kr.1), ← krs_sep,
    krs_chunks fun kr => iprop(free (peer c kr.2) (s4 RB c kr.1) ∗ dutyTok ER (dmaC c (2, peer c kr.2, kr.1)) 0 0 ∗ dutyTok ER (dmaC (peer c kr.2) (3, c, kr.1)) 0 0)]

theorem chunks_out (c : Dev nD) :
    (bigSepL [0, 1, 2, 3] fun k => chunkOut m c k)
      ⊢ iprop((bigSepL krs fun kr => iprop(semVal (dmaC c (1, peer c kr.2, kr.1)) 0 ∗ hold c (s4 RQ (peer c kr.2) kr.1) fullShare (sent1 m (peer c kr.2) c kr.1)))
        ∗ bigSepL krs fun kr => cred (tallyAt (dmaC c (2, peer c kr.2, kr.1)) () N)) := by
  unfold chunkOut
  rw [ks_sep, krs_chunks fun kr => iprop(semVal (dmaC c (1, peer c kr.2, kr.1)) 0 ∗ hold c (s4 RQ (peer c kr.2) kr.1) fullShare (sent1 m (peer c kr.2) c kr.1)),
    krs_chunks fun kr => cred (tallyAt (dmaC c (2, peer c kr.2, kr.1)) () N)]

/-- What the handshake's three signals hand a device. -/
theorem peers_in (c : Dev nD) :
    (bigSepL rs fun r => barPay c (peer c r))
      ⊢ (iprop((bigSepL krs fun kr => free (peer c kr.2) (s4 RQ c kr.1)) ∗ bigSepL krs fun kr => free (peer c kr.2) (s4 RB c kr.1)) : sProp 𝕄) := by
  unfold barPay
  rw [← krs_sep, krs_peers]

/-- One pair of the first exchange, its copy taken off what the device owes. -/
theorem put_one (c : Dev nD) (kr : Fin 4 × Fin 3) (l : List (Fin 4 × Fin 3)) (rest : Pr F) (Q : PUnit → sProp 𝕄) :
    iprop(recs m K ∗ (free c (s4 SQ (peer c kr.2) kr.1) ∗ free (peer c kr.2) (s4 RQ c kr.1) ∗ dutyTok ER (dmaC c (0, peer c kr.2, kr.1)) 0 0
          ∗ dutyTok ER (dmaC (peer c kr.2) (1, c, kr.1)) 0 0) ∗ (stg c cc0_stg3_0 (stW m c) ∗ owing c (due1 c (kr :: l)))
        ∗ ((cred (tallyAt (dmaC c (0, peer c kr.2, kr.1)) () N) ∗ (stg c cc0_stg3_0 (stW m c) ∗ owing c (due1 c l))) -∗ run c rest Q))
      ⊢ run c (put c kr.1 kr.2 (ra m c kr.1) (rb m c kr.1) rest) Q := by
  rw [show due1 c (kr :: l) = due1 c l + tallyAt (dmaC (peer c kr.2) (1, c, kr.1)) () N from rfl]
  exact wp_put m K c kr.1 kr.2 rest Q

/-- All pairs of the first exchange. -/
theorem put_all (c : Dev nD) (rest : Pr F) (Q : PUnit → sProp 𝕄) :
    iprop(recs m K ∗ (bigSepL krs fun kr => iprop(free c (s4 SQ (peer c kr.2) kr.1) ∗ free (peer c kr.2) (s4 RQ c kr.1)
            ∗ dutyTok ER (dmaC c (0, peer c kr.2, kr.1)) 0 0 ∗ dutyTok ER (dmaC (peer c kr.2) (1, c, kr.1)) 0 0))
        ∗ (stg c cc0_stg3_0 (stW m c) ∗ owing c (due1 c krs))
        ∗ (((bigSepL krs fun kr => cred (tallyAt (dmaC c (0, peer c kr.2, kr.1)) () N))
          ∗ (stg c cc0_stg3_0 (stW m c) ∗ owing c (due2 c [0, 1, 2, 3]))) -∗ run c rest Q))
      ⊢ run c (krs.foldr (fun kr rest => put c kr.1 kr.2 (ra m c kr.1) (rb m c kr.1) rest) rest) Q := by
  refine run_fold c (recs m K) _ _ _ (fun l => iprop(stg c cc0_stg3_0 (stW m c) ∗ owing c (due1 c l))) ?_ rest Q krs
  intro kr l rest Q
  exact put_one m K c kr l rest Q

/-- What device `c` starts the body with, besides its staged blocks: per peer a signal's token and what it hands over;
    its barrier's credit and position; per chunk and peer the slot of the first exchange's source, the tokens of the
    copies' duties, and the positions and credits of its own entries; and the totals' slots. -/
def stock (c : Dev nD) : sProp 𝕄 :=
  iprop((bigSepL rs fun r => iprop(dutyTok ER (barC (peer c r)) 0 c ∗ barPay (peer c r) c)) ∗ (cred (tallyAt (barC c) () 3) ∗ atPos ER (barC c) 0 ∅ 0)
    ∗ (bigSepL krs fun kr => free c (s4 SQ (peer c kr.2) kr.1))
    ∗ (bigSepL krs fun kr => iprop(dutyTok ER (dmaC c (0, peer c kr.2, kr.1)) 0 0 ∗ dutyTok ER (dmaC (peer c kr.2) (1, c, kr.1)) 0 0))
    ∗ (bigSepL krs fun kr => atPos ER (dmaC c (0, peer c kr.2, kr.1)) 0 ∅ 0)
    ∗ (bigSepL krs fun kr => ready c (1, peer c kr.2, kr.1))
    ∗ (bigSepL [0, 1, 2, 3] fun k => free c (s3 k))
    ∗ (bigSepL krs fun kr => iprop(dutyTok ER (dmaC c (2, peer c kr.2, kr.1)) 0 0 ∗ dutyTok ER (dmaC (peer c kr.2) (3, c, kr.1)) 0 0))
    ∗ (bigSepL krs fun kr => atPos ER (dmaC c (2, peer c kr.2, kr.1)) 0 ∅ 0)
    ∗ bigSepL krs fun kr => ready c (3, peer c kr.2, kr.1))

/-- What it ends with: the counters it waited on at zero, and the slots. -/
def spent (c : Dev nD) : sProp 𝕄 :=
  iprop(semVal (barC c) 0
    ∗ (bigSepL krs fun kr => iprop(semVal (dmaC c (1, peer c kr.2, kr.1)) 0 ∗ hold c (s4 RQ (peer c kr.2) kr.1) fullShare (sent1 m (peer c kr.2) c kr.1)))
    ∗ (bigSepL krs fun kr => iprop(semVal (dmaC c (3, peer c kr.2, kr.1)) 0 ∗ hold c (s4 RB (peer c kr.2) kr.1) fullShare (sent2 m (peer c kr.2) kr.1)))
    ∗ (bigSepL krs fun kr => iprop(semVal (dmaC c (0, peer c kr.2, kr.1)) 0 ∗ free c (s4 SQ (peer c kr.2) kr.1)))
    ∗ bigSepL krs fun kr => iprop(semVal (dmaC c (2, peer c kr.2, kr.1)) 0 ∗ hold c (s3 kr.1) (lent c (peer c kr.2)) (sent2 m c kr.1)))

/-- The body runs from its stock, staged blocks and dues, and leaves the result `outAt`. -/
theorem wp_flow (c : Dev nD) (f : (cc0_stg4_0 : Ref sig .tc).ty.Contents (Elt F)) (Q : PUnit → sProp 𝕄) :
    iprop(recs m K ∗ stock c ∗ (stg c cc0_stg0_0 (stX m c) ∗ stg c cc0_stg2_0 (stI m c)) ∗ stg c cc0_stg3_0 (stW m c) ∗ stg c cc0_stg4_0 f
        ∗ owing c (due0 c rs)
        ∗ ((spent m c ∗ (stg c cc0_stg0_0 (stX m c) ∗ stg c cc0_stg2_0 (stI m c)) ∗ stg c cc0_stg3_0 (stW m c) ∗ stg c cc0_stg4_0 (outAt m c)
          ∗ owing c 0) -∗ Q ⟨⟩))
      ⊢ run c (flow c) Q := by
  unfold stock
  iintro ⟨#HR, ⟨Hbar, ⟨HcB, HaB⟩, HSQ, Ht01, Ha0, Hr1, HSB, Ht23, Ha2, Hr3⟩, HXI, HW, Hf, HO, Hk⟩
  unfold flow
  iapply (wp_shake m K c)
  isplitr; · iexact HR
  isplitl [Hbar]; · iexact Hbar
  isplitl [HcB]; · iexact HcB
  isplitl [HaB]; · iexact HaB
  isplitl [HO]; · iexact HO
  iintro ⟨HzB, Hpeers, HO⟩
  ihave Hpeers := (peers_in (F := F) c) $$ Hpeers
  icases Hpeers with ⟨HRQ, HRB⟩
  icases HXI with ⟨HX, HI⟩
  iapply (wp_read m c 0); isplitl [HX]; · iexact HX
  isplitl [HI]; · iexact HI
  iintro ⟨HX, HI⟩
  iapply (wp_read m c 1); isplitl [HX]; · iexact HX
  isplitl [HI]; · iexact HI
  iintro ⟨HX, HI⟩
  iapply (wp_read m c 2); isplitl [HX]; · iexact HX
  isplitl [HI]; · iexact HI
  iintro ⟨HX, HI⟩
  iapply (wp_read m c 3); isplitl [HX]; · iexact HX
  isplitl [HI]; · iexact HI
  iintro ⟨HX, HI⟩
  rw [quad_eta (xk m c), quad_eta (ik m c)]
  unfold work
  iapply (put_all m K c)
  isplitr; · iexact HR
  isplitl [HSQ HRQ Ht01]
  · simp only [krs_sep]
    icases Ht01 with ⟨Ht0, Ht1⟩
    isplitl [HSQ]; · iexact HSQ
    isplitl [HRQ]; · iexact HRQ
    isplitl [Ht0]; · iexact Ht0
    iexact Ht1
  isplitl [HW HO]
  · isplitl [HW]; · iexact HW
    iexact HO
  iintro ⟨Hc0, HW, HO⟩
  iapply (wp_own m c 0); isplitl [HW]; · iexact HW
  iintro HW
  iapply (wp_own m c 1); isplitl [HW]; · iexact HW
  iintro HW
  iapply (wp_own m c 2); isplitl [HW]; · iexact HW
  iintro HW
  iapply (wp_own m c 3); isplitl [HW]; · iexact HW
  iintro HW
  rw [quad_eta (mine m c)]
  iapply (run_fold c (recs m K) (fun k rest => chunk c k (mine m c k) rest) (fun k => chunkIn c k) (fun k => chunkOut m c k)
    (fun ks => iprop(result m c (fun k' d => d = c ∧ k' ∉ ks) ∗ owing c (due2 c ks))) (fun k ks rest Q => wp_chunk m K c k ks rest Q) _ Q [0, 1, 2, 3])
  isplitr; · iexact HR
  isplitl [Hr1 HSB HRB Ht23]
  · iapply (chunks_in (F := F) c)
    isplitl [Hr1]; · iexact Hr1
    isplitl [HSB]; · iexact HSB
    isplitl [HRB]; · iexact HRB
    iexact Ht23
  isplitl [Hf HO]
  · isplitl [Hf]
    · unfold result
      iexists f
      isplitr; · ipureintro; exact fun k d h => absurd ((by decide : ∀ k : Fin 4, k ∈ [0, 1, 2, 3]) k) h.2
      iexact Hf
    iexact HO
  iintro ⟨Hch, Hres, HO⟩
  ihave Hch := (chunks_out m c) $$ Hch
  icases Hch with ⟨H1, Hc2⟩
  iapply (wp_finish m K c)
  isplitr; · iexact HR
  isplitl [Hr3]; · iexact Hr3
  isplitl [Hc0 Ha0]
  · iapply (Entails.of_eq (krs_sep (fun kr => cred (tallyAt (dmaC c (0, peer c kr.2, kr.1)) () N)) (fun kr => atPos ER (dmaC c (0, peer c kr.2, kr.1)) 0 ∅ 0)).symm)
    isplitl [Hc0]; · iexact Hc0
    iexact Ha0
  isplitl [Hc2 Ha2]
  · iapply (Entails.of_eq (krs_sep (fun kr => cred (tallyAt (dmaC c (2, peer c kr.2, kr.1)) () N)) (fun kr => atPos ER (dmaC c (2, peer c kr.2, kr.1)) 0 ∅ 0)).symm)
    isplitl [Hc2]; · iexact Hc2
    iexact Ha2
  isplitl [Hres]
  · unfold result
    icases Hres with ⟨%g, %hg, Hg⟩
    iexists g
    isplitr; · ipureintro; exact hg.mono m fun k d h => ⟨h, List.not_mem_nil⟩
    iexact Hg
  isplitl [HO]; · iexact HO
  iintro ⟨H3, H0, H2, Hout, HO⟩
  iapply Hk
  isplitl [HzB H1 H3 H0 H2]
  · unfold spent
    isplitl [HzB]; · iexact HzB
    isplitl [H1]; · iexact H1
    isplitl [H3]; · iexact H3
    isplitl [H0]; · iexact H0
    iexact H2
  isplitl [HX HI]
  · isplitl [HX]; · iexact HX
    iexact HI
  isplitl [HW]; · iexact HW
  isplitl [Hout]; · iexact Hout
  iexact HO

end Cert.KernelIdeal.Moe

end
-- ==== Proof.Deal.lean ====
/-
# Dealing the launch's resources

A device's semaphores, slots, tokens and credits, as families over all devices and chunks, are split into those that
its body uses, by chunk and peer, and those of the entries `(c, k)` and slots `(c, k)` of device `c` itself, which it
does not.
-/
module

public import proofs.«01_k».proof.Proof.Body

@[expose] public section

noncomputable section

namespace Cert.KernelIdeal.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## Families over devices and chunks -/

/-- A family over the devices and the chunks: its part at device `c`, and at `c`'s peers. -/
def selfPart (c : Dev nD) (Ψ : Dev nD → Fin 4 → sProp 𝕄) : sProp 𝕄 := bigSepL [0, 1, 2, 3] fun k => Ψ c k
abbrev peerPart (c : Dev nD) (Ψ : Dev nD → Fin 4 → sProp 𝕄) : sProp 𝕄 := bigSepL krs fun kr => Ψ (peer c kr.2) kr.1

theorem parts (c : Dev nD) (Ψ : Dev nD → Fin 4 → sProp 𝕄) :
    bigSep Finset.univ (fun tk : Dev nD × Fin 4 => Ψ tk.1 tk.2) = iprop(selfPart c Ψ ∗ peerPart c Ψ) := by
  unfold selfPart peerPart
  rw [bigSep_univ_prod, bigSep_univ_at _ c, others_eq, bigSep_eq_bigSepL _ (others_nodup c), bigSepL_map, krs_peers]
  simp only [ks_univ]

theorem fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ

/-- A family over the entries, array by array. -/
theorem arrays (c : Dev nD) (Φ : Key → sProp 𝕄) :
    bigSep Finset.univ Φ = iprop((selfPart c (fun t k => Φ (0, t, k)) ∗ peerPart c (fun t k => Φ (0, t, k)))
      ∗ (selfPart c (fun t k => Φ (1, t, k)) ∗ peerPart c (fun t k => Φ (1, t, k)))
      ∗ (selfPart c (fun t k => Φ (2, t, k)) ∗ peerPart c (fun t k => Φ (2, t, k)))
      ∗ (selfPart c (fun t k => Φ (3, t, k)) ∗ peerPart c (fun t k => Φ (3, t, k)))) := by
  rw [bigSep_univ_prod, fin4]
  simp only [← parts]

/-- A family over a device's semaphores: the barrier's and the entries'. -/
theorem barrier_entries (Φ : Option Key → sProp 𝕄) :
    bigSep Finset.univ Φ = iprop(Φ none ∗ bigSep Finset.univ fun x => Φ (some x)) := by
  rw [bigSep_univ_at _ none, show (Finset.univ.erase none : Finset (Option Key)) = Finset.univ.map Function.Embedding.some from by
    ext x; cases x <;> simp, bigSep_map]
  rfl

/-! ## Slots -/

theorem free_intro (c : Dev nD) (M : Memref sig .tc .vmem S128x128 .bf16) (f : Buf (Elt F) (M.view.loc (c : Thread nD τ))) :
    (M.view.loc (c : Thread nD τ) ↦[M.view.set]{fullShare} f) ⊢ (free c M : sProp 𝕄) := by
  unfold free; iintro H; iexists f; iexact H

theorem free_elim4 (c : Dev nD) (M : Memref sig .tc .vmem S4x4x128x128 .bf16) (t : Dev nD) (k : Fin 4) :
    (free c (s4 M t k) : sProp 𝕄) ⊢ iprop(∃ f : Buf (Elt F) (M.view.loc (c : Thread nD τ)), M.view.loc (c : Thread nD τ) ↦[(s4 M t k).view.set]{fullShare} f) := by
  unfold free; iintro ⟨%f, H⟩; iexists f; iexact H
theorem free_elim3 (c : Dev nD) (k : Fin 4) :
    (free c (s3 k) : sProp 𝕄) ⊢ iprop(∃ f : Buf (Elt F) (SB.view.loc (c : Thread nD τ)), SB.view.loc (c : Thread nD τ) ↦[(s3 k).view.set]{fullShare} f) := by
  unfold free; iintro ⟨%f, H⟩; iexists f; iexact H

section Slots
variable (M : Memref sig .tc .vmem S4x4x128x128 .bf16)

theorem slots_apart (b b' : Dev nD × Fin 4) (h : b ≠ b') : Disjoint (s4 M b.1 b.2).view.set (s4 M b'.1 b'.2).view.set := by
  rw [← set4, ← set4]
  refine (show Disjoint (M.view.slice (rect4 (o4 b.1 b.2) (in4 b.1 b.2))).set (M.view.slice (rect4 (o4 b'.1 b'.2) (in4 b'.1 b'.2))).set from
    View.disjoint_slice ?_)
  by_cases h0 : b.1 = b'.1
  · refine Rect.unit_disjoint (1 : Fin 4) ?_
    show b.2.val + 1 ≤ b'.2.val ∨ b'.2.val + 1 ≤ b.2.val
    have : b.2.val ≠ b'.2.val := fun e => h (Prod.ext h0 (Fin.ext e))
    omega
  · refine Rect.unit_disjoint (0 : Fin 4) ?_
    show b.1.val + 1 ≤ b'.1.val ∨ b'.1.val + 1 ≤ b.1.val
    have : b.1.val ≠ b'.1.val := fun e => h0 (Fin.ext e)
    omega

theorem slots_cover : Finset.univ.biUnion (fun b : Dev nD × Fin 4 => (s4 M b.1 b.2).view.set) = M.view.set := by
  apply Finset.Subset.antisymm
  · refine Finset.biUnion_subset.mpr fun b _ => ?_
    rw [← set4]; exact View.set_slice_subset _ _
  · intro j hj
    obtain ⟨i, -, rfl⟩ := Finset.mem_map.mp hj
    refine Finset.mem_biUnion.mpr ⟨(⟨(i (0 : Fin 4)).val, (i (0 : Fin 4)).isLt⟩, ⟨(i (1 : Fin 4)).val, (i (1 : Fin 4)).isLt⟩), Finset.mem_univ _, ?_⟩
    rw [← set4]
    refine (show _ ∈ (M.view.slice (rect4 _ _)).set from ?_)
    rw [View.set_slice]
    refine Finset.mem_map.mpr ⟨i, ?_, rfl⟩
    refine Rect.mem_set_unit.mpr fun a => ?_
    match a with
    | ⟨0, _⟩ => exact ⟨Nat.le_refl _, Nat.lt_succ_self _⟩
    | ⟨1, _⟩ => exact ⟨Nat.le_refl _, Nat.lt_succ_self _⟩
    | ⟨2, h⟩ => exact ⟨Nat.zero_le _, by have := (i ⟨2, h⟩).isLt; exact this.trans_eq (Nat.zero_add _).symm⟩
    | ⟨3, h⟩ => exact ⟨Nat.zero_le _, by have := (i ⟨3, h⟩).isLt; exact this.trans_eq (Nat.zero_add _).symm⟩

/-- A buffer of sixteen slots, held at any contents, as its slots, and back. -/
theorem slots_out (c : Dev nD) : (∃ f, M.view.loc (c : Thread nD τ) ↦[M.view.set]{fullShare} f)
    ⊢ (iprop(selfPart c (fun t k => free c (s4 M t k)) ∗ peerPart c (fun t k => free c (s4 M t k))) : sProp 𝕄) := by
  rw [← parts]
  iintro ⟨%f, H⟩
  ihave H := (Entails.of_eq (Ring.pointsTo_sub_blocks (fun b : Dev nD × Fin 4 => (s4 M b.1 b.2).view.set) (slots_apart M) M.view.set (slots_cover M) f)) $$ H
  have h : (bigSep Finset.univ fun b : Dev nD × Fin 4 => M.view.loc (c : Thread nD τ) ↦[(s4 M b.1 b.2).view.set]{fullShare} f)
      ⊢ (bigSep Finset.univ fun b : Dev nD × Fin 4 => free c (s4 M b.1 b.2) : sProp 𝕄) :=
    bigSep_mono fun b _ => free_intro c (s4 M b.1 b.2) f
  iapply h; iexact H

theorem slots_in (c : Dev nD)
    (f₀ : Buf (Elt F) (M.view.loc (c : Thread nD τ))) : (iprop(selfPart c (fun t k => free c (s4 M t k)) ∗ peerPart c (fun t k => free c (s4 M t k))) : sProp 𝕄)
    ⊢ ∃ f, M.view.loc (c : Thread nD τ) ↦[M.view.set]{fullShare} f := by
  rw [← parts]
  have h := Ring.pointsTo_sub_blocks_join_exists (Ix := Unit) (Name := ℕ) (U := UU) (Lvl := ℕ) (ℓ := M.view.loc (c : Thread nD τ))
    (fun b : Dev nD × Fin 4 => (s4 M b.1 b.2).view.set) (slots_apart M) M.view.set (slots_cover M) (q := fullShare) f₀
  have h' : (bigSep Finset.univ fun b : Dev nD × Fin 4 => free c (s4 M b.1 b.2) : sProp 𝕄) ⊢ _ := bigSep_mono fun b _ => free_elim4 c M b.1 b.2
  iintro H
  iapply h; iapply h'; iexact H

end Slots

theorem totals_apart (k k' : Fin 4) (h : k ≠ k') : Disjoint (s3 k).view.set (s3 k').view.set := by
  rw [← set3, ← set3]
  refine (show Disjoint (SB.view.slice (rect3 (o3 k) (in3 k))).set (SB.view.slice (rect3 (o3 k') (in3 k'))).set from View.disjoint_slice ?_)
  refine Rect.unit_disjoint (0 : Fin 3) ?_
  show k.val + 1 ≤ k'.val ∨ k'.val + 1 ≤ k.val
  have : k.val ≠ k'.val := fun e => h (Fin.ext e)
  omega

theorem totals_cover : Finset.univ.biUnion (fun k : Fin 4 => (s3 k).view.set) = SB.view.set := by
  apply Finset.Subset.antisymm
  · refine Finset.biUnion_subset.mpr fun b _ => ?_
    rw [← set3]; exact View.set_slice_subset _ _
  · intro j hj
    obtain ⟨i, -, rfl⟩ := Finset.mem_map.mp hj
    refine Finset.mem_biUnion.mpr ⟨⟨(i (0 : Fin 3)).val, (i (0 : Fin 3)).isLt⟩, Finset.mem_univ _, ?_⟩
    rw [← set3]
    refine (show _ ∈ (SB.view.slice (rect3 _ _)).set from ?_)
    rw [View.set_slice]
    refine Finset.mem_map.mpr ⟨i, ?_, rfl⟩
    refine Rect.mem_set_unit.mpr fun a => ?_
    match a with
    | ⟨0, _⟩ => exact ⟨Nat.le_refl _, Nat.lt_succ_self _⟩
    | ⟨1, h⟩ => exact ⟨Nat.zero_le _, by have := (i ⟨1, h⟩).isLt; exact this.trans_eq (Nat.zero_add _).symm⟩
    | ⟨2, h⟩ => exact ⟨Nat.zero_le _, by have := (i ⟨2, h⟩).isLt; exact this.trans_eq (Nat.zero_add _).symm⟩

/-- The buffer of the totals as its four slots, and back. -/
theorem totals_out (c : Dev nD) : (∃ f, SB.view.loc (c : Thread nD τ) ↦[SB.view.set]{fullShare} f)
    ⊢ (bigSepL [0, 1, 2, 3] fun k => free c (s3 k) : sProp 𝕄) := by
  rw [ks_univ]
  iintro ⟨%f, H⟩
  ihave H := (Entails.of_eq (Ring.pointsTo_sub_blocks (fun k : Fin 4 => (s3 k).view.set) totals_apart SB.view.set totals_cover f)) $$ H
  have h : (bigSep Finset.univ fun k : Fin 4 => SB.view.loc (c : Thread nD τ) ↦[(s3 k).view.set]{fullShare} f)
      ⊢ (bigSep Finset.univ fun k : Fin 4 => free c (s3 k) : sProp 𝕄) :=
    bigSep_mono fun k _ => free_intro c (s3 k) f
  iapply h; iexact H

theorem totals_in (c : Dev nD) (f₀ : Buf (Elt F) (SB.view.loc (c : Thread nD τ))) : (bigSepL [0, 1, 2, 3] fun k => free c (s3 k) : sProp 𝕄)
    ⊢ ∃ f, SB.view.loc (c : Thread nD τ) ↦[SB.view.set]{fullShare} f := by
  rw [ks_univ]
  have h := Ring.pointsTo_sub_blocks_join_exists (Ix := Unit) (Name := ℕ) (U := UU) (Lvl := ℕ) (ℓ := SB.view.loc (c : Thread nD τ))
    (fun k : Fin 4 => (s3 k).view.set) totals_apart SB.view.set totals_cover (q := fullShare) f₀
  have h' : (bigSep Finset.univ fun k : Fin 4 => free c (s3 k) : sProp 𝕄) ⊢ _ := bigSep_mono fun k _ => free_elim3 c k
  iintro H
  iapply h; iapply h'; iexact H

/-! ## Tokens -/

/-- The tokens minted for device `c`'s own semaphores: one per peer for the barrier, one per chunk and peer and array. -/
abbrev Tok : Type := Fin 3 ⊕ (Fin 4 × Fin 4 × Fin 3)
abbrev tokOf (ct : Dev nD × Tok) : GSem nD τ sig × ℕ × Dev nD :=
  match ct.2 with
  | .inl r => (barC ct.1, 0, peer ct.1 r)
  | .inr x => (dmaC ct.1 (x.1, peer ct.1 x.2.2, x.2.1), 0, 0)

theorem tokOf_injective : Function.Injective tokOf := by
  rintro ⟨c, t⟩ ⟨c', t'⟩ h
  have hc : c = c' := by
    have := congrArg (fun x : GSem nD τ sig × ℕ × Dev nD => x.1.1.1) h
    cases t <;> cases t' <;> exact this
  subst hc
  rcases t with r | ⟨a, k, r⟩ <;> rcases t' with r' | ⟨a', k', r'⟩
  · have := peer_inj c r r' (congrArg (fun x : GSem nD τ sig × ℕ × Dev nD => x.2.2) h)
    subst this; rfl
  · exact absurd (congrArg (fun x : GSem nD τ sig × ℕ × Dev nD => x.1.2) h) (dma_ne_bar _).symm
  · exact absurd (congrArg (fun x : GSem nD τ sig × ℕ × Dev nD => x.1.2) h) (dma_ne_bar _)
  · have hk := semK_inj (congrArg (fun x : GSem nD τ sig × ℕ × Dev nD => x.1.2) h)
    have h1 : a = a' := congrArg (fun x : Key => x.1) hk
    have h2 := peer_inj c r r' (congrArg (fun x : Key => x.2.1) hk)
    have h3 : k = k' := congrArg (fun x : Key => x.2.2) hk
    subst h1 h2 h3; rfl

/-- The tokens of array `a`'s entries of device `c`, and those of its peers' entries `(c, k)`. -/
def tokHere (c : Dev nD) (a : Fin 4) : sProp 𝕄 := bigSepL krs fun kr => dutyTok ER (dmaC c (a, peer c kr.2, kr.1)) 0 0
def tokThere (c : Dev nD) (a : Fin 4) : sProp 𝕄 := bigSepL krs fun kr => dutyTok ER (dmaC (peer c kr.2) (a, c, kr.1)) 0 0

/-- The tokens of device `c`'s own semaphores, and those of the duties it pays. -/
def ownToks (c : Dev nD) : sProp 𝕄 :=
  iprop((bigSepL rs fun r => dutyTok ER (barC c) 0 (peer c r)) ∗ tokHere c 0 ∗ tokHere c 1 ∗ tokHere c 2 ∗ tokHere c 3)
def payToks (c : Dev nD) : sProp 𝕄 :=
  iprop((bigSepL rs fun r => dutyTok ER (barC (peer c r)) 0 c) ∗ tokHere c 0 ∗ tokThere c 1 ∗ tokHere c 2 ∗ tokThere c 3)

def allToks : Finset (GSem nD τ sig × ℕ × Dev nD) := Finset.univ.map ⟨tokOf, tokOf_injective⟩

theorem allToks_eq : bigSep allToks (fun x => (dutyTok ER x.1 x.2.1 x.2.2 : sProp 𝕄)) = bigSep Finset.univ fun c : Dev nD => ownToks c := by
  unfold allToks; rw [bigSep_map, bigSep_univ_prod]
  refine bigSep_congr fun c _ => ?_
  unfold ownToks tokHere
  rw [bigSep_univ_sum, bigSep_univ_prod, fin4]
  simp only [rs_univ, krs_univ]
  rfl

/-- A device and its peer change places. -/
def swap (r : Fin 3) : Dev nD ≃ Dev nD := ⟨fun c => peer c r, fun c => peer c r, fun c => peer_peer c r, fun c => peer_peer c r⟩

theorem around {ι : Type} [Fintype ι] (p : ι → Fin 3) (Φ : Dev nD → ι → sProp 𝕄) :
    (bigSep Finset.univ fun c => bigSep Finset.univ fun i => Φ c i) = bigSep Finset.univ fun c => bigSep Finset.univ fun i => Φ (peer c (p i)) i := by
  rw [bigSep_univ_comm, bigSep_univ_comm fun c i => Φ (peer c (p i)) i]
  exact bigSep_congr fun i _ => bigSep_univ_equiv (swap (p i)) fun c => Φ c i

theorem toks_around : (bigSep Finset.univ fun c : Dev nD => ownToks c : sProp 𝕄) = bigSep Finset.univ fun c : Dev nD => payToks c := by
  have hb : (bigSep Finset.univ fun c : Dev nD => bigSepL rs fun r => dutyTok ER (barC c) 0 (peer c r) : sProp 𝕄)
      = bigSep Finset.univ fun c : Dev nD => bigSepL rs fun r => dutyTok ER (barC (peer c r)) 0 c := by
    simp only [rs_univ]
    refine (around id _).trans (bigSep_congr fun c _ => bigSep_congr fun r _ => ?_)
    show dutyTok ER (barC (peer c r)) 0 (peer (peer c r) r) = _
    rw [peer_peer]
  have hd (a : Fin 4) : (bigSep Finset.univ fun c : Dev nD => tokHere c a : sProp 𝕄) = bigSep Finset.univ fun c : Dev nD => tokThere c a := by
    unfold tokHere tokThere
    simp only [krs_univ]
    refine (around (fun kr : Fin 4 × Fin 3 => kr.2) _).trans (bigSep_congr fun c _ => bigSep_congr fun kr _ => ?_)
    show dutyTok ER (dmaC (peer c kr.2) (a, peer (peer c kr.2) kr.2, kr.1)) 0 0 = _
    rw [peer_peer]
  unfold ownToks payToks
  simp only [bigSep_sep', hb, hd 1, hd 3]

/-! ## Credit -/

theorem bar_iff {a b : Dev nD} : barC a = barC b ↔ a = b := ⟨fun h => congrArg (fun g : GSem nD τ sig => g.1.1) h, fun h => h ▸ rfl⟩
theorem dma_iff {a b : Dev nD} {x y : Key} : dmaC a x = dmaC b y ↔ a = b ∧ x = y :=
  ⟨fun h => ⟨congrArg (fun g : GSem nD τ sig => g.1.1) h, semK_inj (congrArg Prod.snd h)⟩, fun h => by rw [h.1, h.2]⟩

/-- A sum of dues at one cell. -/
theorem dues_at {ι : Type} (f : ι → GSem nD τ sig) (n : ℕ) (g : GSem nD τ sig) (O : CellTallies nD τ sig Unit) (l : List ι) :
    (l.foldr (fun i s => s + tallyAt (f i) () n) O) g () = O g () + (l.countP fun i => decide (g = f i)) * n := by
  induction l with
  | nil => simp
  | cons i l ih =>
    rw [List.foldr_cons, Pi.add_apply, Finsupp.add_apply, ih, tallyAt_apply, List.countP_cons, Nat.add_mul, Nat.add_assoc]
    congr 2
    by_cases h : g = f i
    · rw [if_pos ⟨h, rfl⟩, if_pos (decide_eq_true h), Nat.one_mul]
    · rw [if_neg fun h' => h h'.1, if_neg (by simpa using h), Nat.zero_mul]

theorem due2_at (c : Dev nD) (g : GSem nD τ sig) : (due2 c [0, 1, 2, 3]) g ()
    = (krs.countP fun kr => decide (g = dmaC (peer c kr.2) (3, c, kr.1))) * N := by
  have h : due2 c [0, 1, 2, 3] = krs.foldr (fun kr s => s + tallyAt (dmaC (peer c kr.2) (3, c, kr.1)) () N) 0 := rfl
  rw [h, dues_at (fun kr : Fin 4 × Fin 3 => dmaC (peer c kr.2) (3, c, kr.1)), Pi.zero_apply, Finsupp.zero_apply, Nat.zero_add]

theorem due0_at (c : Dev nD) (g : GSem nD τ sig) : (due0 c rs) g ()
    = (krs.countP fun kr => decide (g = dmaC (peer c kr.2) (3, c, kr.1))) * N
      + (krs.countP fun kr => decide (g = dmaC (peer c kr.2) (1, c, kr.1))) * N + (rs.countP fun r => decide (g = barC (peer c r))) * 1 := by
  unfold due0 due1
  rw [dues_at (fun r => barC (peer c r)), dues_at (fun kr : Fin 4 × Fin 3 => dmaC (peer c kr.2) (1, c, kr.1)), due2_at]

/-- How often the devices together owe an entry, and a barrier. -/
theorem owed_entry : ∀ c : Dev nD, ∀ x : Key, (x.1 = 1 ∨ x.1 = 3) → x.2.1 ≠ c →
    (∑ d : Dev nD, ((krs.countP fun kr => decide (c = peer d kr.2 ∧ x = (3, d, kr.1))) + (krs.countP fun kr => decide (c = peer d kr.2 ∧ x = (1, d, kr.1))))) = 1 := by
  decide +kernel
theorem owed_bar : ∀ c : Dev nD, (∑ d : Dev nD, rs.countP fun r => decide (c = peer d r)) = 3 := by decide +kernel

theorem credit_bar (c : Dev nD) :
    tallyOn (barC c) (launchCredit (Pipeline.owing fun d => due0 d rs) 0 (barC c)) = (tallyAt (barC c) () 3 : CellTallies nD τ sig Unit) := by
  unfold tallyAt; refine congrArg _ (Finsupp.ext fun u => ?_); cases u
  rw [Pipeline.launchCredit_owing, Finsupp.single_eq_same, ← owed_bar c]
  refine Finset.sum_congr rfl fun d _ => ?_
  have hn (y : Key) (b : Dev nD) : ¬ barC c = dmaC b y := fun h => dma_ne_bar _ (congrArg Prod.snd h).symm
  rw [due0_at]
  simp only [hn, bar_iff, decide_false, List.countP_false, Function.const_apply, Nat.zero_mul, Nat.zero_add, Nat.mul_one]

theorem credit_entry (c : Dev nD) (x : Key) (ha : x.1 = 1 ∨ x.1 = 3) (hx : x.2.1 ≠ c) :
    tallyOn (dmaC c x) (launchCredit (Pipeline.owing fun d => due0 d rs) 0 (dmaC c x)) = (tallyAt (dmaC c x) () N : CellTallies nD τ sig Unit) := by
  unfold tallyAt; refine congrArg _ (Finsupp.ext fun u => ?_); cases u
  rw [Pipeline.launchCredit_owing, Finsupp.single_eq_same]
  refine Eq.trans ?_ (Nat.one_mul N)
  rw [← owed_entry c x ha hx, Finset.sum_mul]
  refine Finset.sum_congr rfl fun d _ => ?_
  have hn (b : Dev nD) : ¬ dmaC c x = barC b := fun h => dma_ne_bar _ (congrArg Prod.snd h)
  rw [due0_at, Nat.add_mul]
  simp only [hn, dma_iff, decide_false, List.countP_false, Function.const_apply, Nat.zero_mul, Nat.add_zero]

/-- The credit device `c` is dealt: its barrier's three units, and the bytes of what it is sent in both exchanges. -/
def creds (c : Dev nD) : sProp 𝕄 :=
  iprop(cred (tallyAt (barC c) () 3) ∗ peerPart c (fun t k => cred (tallyAt (dmaC c (1, t, k)) () N))
    ∗ peerPart c (fun t k => cred (tallyAt (dmaC c (3, t, k)) () N)))

theorem peerPart_congr (c : Dev nD) {Ψ Ψ' : Dev nD → Fin 4 → sProp 𝕄} (h : ∀ t k, t ≠ c → Ψ t k = Ψ' t k) : peerPart c Ψ = peerPart c Ψ' := by
  unfold peerPart; simp only [krs_univ]; exact bigSep_congr fun kr _ => h _ _ (peer_ne c kr.2)

theorem creds_intro (c : Dev nD) : (Pipeline.launchCred (fun d => due0 d rs) c : sProp 𝕄) ⊢ creds c := by
  unfold Pipeline.launchCred creds
  rw [bigSep_univ_at _ (SemLoc.reg barS), credit_bar]
  refine sep_mono_right ?_
  have hs : Finset.univ.map ⟨fun x : Key => (SemLoc.dma (semK x) : SemLoc sig), semK_inj⟩ ⊆ Finset.univ.erase (SemLoc.reg barS) := fun s hs => by
    obtain ⟨x, -, rfl⟩ := Finset.mem_map.mp hs
    exact Finset.mem_erase.mpr ⟨dma_ne_bar _, Finset.mem_univ _⟩
  refine (bigSep_subset hs).trans ?_
  rw [bigSep_map, arrays c]
  rw [← peerPart_congr c (fun t k h => congrArg cred (credit_entry c (1, t, k) (.inl rfl) h)), ← peerPart_congr c (fun t k h => congrArg cred (credit_entry c (3, t, k) (.inr rfl) h))]
  change (_ : sProp 𝕄) ⊢ _
  iintro ⟨-, ⟨-, H1⟩, -, -, H3⟩
  isplitl [H1]; · iexact H1
  iexact H3

end Cert.KernelIdeal.Moe

end
-- ==== Proof.Run.lean ====
/-
# The run

At the mesh of four devices, for any float values, from any memory with zero counters: every weakly fair execution
terminates, and every final state has each device's result at `outAt`, the operands unchanged and every counter at zero.
-/
module

public import proofs.«01_k».proof.Proof.Deal
public import Idealize.ShloMosaic.Lib.Pipeline.CollectiveSegs

@[expose] public section

noncomputable section

namespace Cert.KernelIdeal.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

def s₀ : MemSt nD τ sig (Elt F) := ⟨m, fun _ => 0, ρ⟩

/-! ## What a device starts and ends with -/

/-- The invariants and round-0 marks of all semaphores, under names `K`. -/
def marks (K : Dev nD × Option Key → ℕ) : sProp 𝕄 :=
  iprop((bigSep Finset.univ fun ck : Dev nD × Option Key => cellInv ER (sched m) (K ck) (kcell ck))
    ∗ (bigSep Finset.univ fun ck : Dev nD × Option Key => reached ER (kcell ck) 0))

instance marks_persistent (K : Dev nD × Option Key → ℕ) : BI.Persistent (marks m K) := by unfold marks; infer_instance

/-- Device `c`'s positions, and the tokens of the duties it pays. -/
def linear (c : Dev nD) : sProp 𝕄 := iprop((bigSep Finset.univ fun o : Option Key => atPos ER (kcell (c, o)) 0 ∅ 0) ∗ payToks c)

/-- Before the body: that, the levels and the launch's credit. -/
def start (c : Dev nD) : sProp 𝕄 := iprop((∃ K, marks m K ∗ linear c) ∗ levAts L lv ∗ creds c)

/-- What the body does not use: the entries and slots of the device itself. -/
def left (c : Dev nD) : sProp 𝕄 :=
  iprop((selfPart c (fun t k => atPos ER (dmaC c (0, t, k)) 0 ∅ 0) ∗ selfPart c (fun t k => atPos ER (dmaC c (1, t, k)) 0 ∅ 0)
      ∗ selfPart c (fun t k => atPos ER (dmaC c (2, t, k)) 0 ∅ 0) ∗ selfPart c (fun t k => atPos ER (dmaC c (3, t, k)) 0 ∅ 0))
    ∗ selfPart c (fun t k => free c (s4 SQ t k)) ∗ selfPart c (fun t k => free c (s4 RQ t k)) ∗ selfPart c (fun t k => free c (s4 RB t k)))

/-- The same, the entries' counters back at zero. -/
def idle (c : Dev nD) : sProp 𝕄 :=
  iprop((selfPart c (fun t k => semVal (dmaC c (0, t, k)) 0) ∗ selfPart c (fun t k => semVal (dmaC c (1, t, k)) 0)
      ∗ selfPart c (fun t k => semVal (dmaC c (2, t, k)) 0) ∗ selfPart c (fun t k => semVal (dmaC c (3, t, k)) 0))
    ∗ selfPart c (fun t k => free c (s4 SQ t k)) ∗ selfPart c (fun t k => free c (s4 RQ t k)) ∗ selfPart c (fun t k => free c (s4 RB t k)))

/-- The buffers that are neither staged nor arguments, whole. -/
theorem scratch_eq (c : Dev nD) : (Pipeline.scopedRest (Ix := Unit) (Name := ℕ) (U := UU) (Lvl := ℕ) (Val := Elt F) cfg0.spec c : sProp 𝕄)
    = iprop((∃ f, SQ.view.loc (c : Thread nD τ) ↦[SQ.view.set]{fullShare} f) ∗ (∃ f, RQ.view.loc (c : Thread nD τ) ↦[RQ.view.set]{fullShare} f)
      ∗ (∃ f, SB.view.loc (c : Thread nD τ) ↦[SB.view.set]{fullShare} f) ∗ ∃ f, RB.view.loc (c : Thread nD τ) ↦[RB.view.set]{fullShare} f) := by
  rw [scopedRest0_eq]
  simp only [Memref.view_whole, View.set_whole]

theorem peer_sep (c : Dev nD) (Φ Ψ : Dev nD → Fin 4 → sProp 𝕄) :
    peerPart c (fun t k => iprop(Φ t k ∗ Ψ t k)) = iprop(peerPart c Φ ∗ peerPart c Ψ) := krs_sep _ _

/-- The slots of a device's own buffers, by peer: what its signals hand over. -/
theorem hand_over (c : Dev nD) :
    iprop((bigSepL rs fun r => dutyTok ER (barC (peer c r)) 0 c) ∗ peerPart c (fun t k => free c (s4 RQ t k)) ∗ peerPart c (fun t k => free c (s4 RB t k)))
      ⊢ (bigSepL rs fun r => iprop(dutyTok ER (barC (peer c r)) 0 c ∗ barPay (peer c r) c) : sProp 𝕄) := by
  unfold barPay
  rw [← peer_sep, rs_sep]
  unfold peerPart
  rw [krs_peers]

/-- A family over a device's semaphores: the barrier's, then each array's own and its peers' entries. -/
theorem entries_eq (c : Dev nD) (Φ : GSem nD τ sig → sProp 𝕄) :
    (bigSep Finset.univ fun o : Option Key => Φ (kcell (c, o)))
      = iprop(Φ (barC c) ∗ (selfPart c (fun t k => Φ (dmaC c (0, t, k))) ∗ peerPart c (fun t k => Φ (dmaC c (0, t, k))))
        ∗ (selfPart c (fun t k => Φ (dmaC c (1, t, k))) ∗ peerPart c (fun t k => Φ (dmaC c (1, t, k))))
        ∗ (selfPart c (fun t k => Φ (dmaC c (2, t, k))) ∗ peerPart c (fun t k => Φ (dmaC c (2, t, k))))
        ∗ selfPart c (fun t k => Φ (dmaC c (3, t, k))) ∗ peerPart c (fun t k => Φ (dmaC c (3, t, k)))) := by
  rw [barrier_entries, arrays c]

/-- The start of a device: the body's stock, and what the body does not use. -/
theorem deal (K : Dev nD × Option Key → ℕ) (c : Dev nD) :
    iprop(linear c ∗ creds c ∗ Pipeline.scopedRest (Ix := Unit) (Name := ℕ) (U := UU) (Lvl := ℕ) (Val := Elt F) cfg0.spec c)
      ⊢ (iprop(stock c ∗ left c) : sProp 𝕄) := by
  unfold linear creds payToks
  rw [entries_eq c (fun g => atPos ER g 0 ∅ 0), scratch_eq]
  iintro ⟨⟨⟨HaB, ⟨Hd0, Ha0⟩, ⟨Hd1, Ha1⟩, ⟨Hd2, Ha2⟩, Hd3, Ha3⟩, Htb, Ht0, Ht1, Ht2, Ht3⟩, ⟨HcB, Hc1, Hc3⟩, HSQ, HRQ, HSB, HRB⟩
  ihave HSQ := (slots_out SQ c) $$ HSQ
  icases HSQ with ⟨HSQd, HSQ⟩
  ihave HRQ := (slots_out RQ c) $$ HRQ
  icases HRQ with ⟨HRQd, HRQ⟩
  ihave HRB := (slots_out RB c) $$ HRB
  icases HRB with ⟨HRBd, HRB⟩
  ihave HSB := (totals_out c) $$ HSB
  isplitr [Hd0 Hd1 Hd2 Hd3 HSQd HRQd HRBd]
  · unfold stock
    isplitl [Htb HRQ HRB]
    · iapply (hand_over (F := F) c)
      isplitl [Htb]; · iexact Htb
      isplitl [HRQ]; · iexact HRQ
      iexact HRB
    isplitl [HcB HaB]
    · isplitl [HcB]; · iexact HcB
      iexact HaB
    isplitl [HSQ]; · iexact HSQ
    isplitl [Ht0 Ht1]
    · iapply (Entails.of_eq (krs_sep (fun kr => dutyTok ER (dmaC c (0, peer c kr.2, kr.1)) 0 0) (fun kr => dutyTok ER (dmaC (peer c kr.2) (1, c, kr.1)) 0 0)).symm)
      unfold tokHere tokThere
      isplitl [Ht0]; · iexact Ht0
      iexact Ht1
    isplitl [Ha0]; · iexact Ha0
    isplitl [Hc1 Ha1]
    · iapply (Entails.of_eq (krs_sep (fun kr => cred (tallyAt (dmaC c (1, peer c kr.2, kr.1)) () N)) (fun kr => atPos ER (dmaC c (1, peer c kr.2, kr.1)) 0 ∅ 0)).symm)
      isplitl [Hc1]; · iexact Hc1
      iexact Ha1
    isplitl [HSB]; · iexact HSB
    isplitl [Ht2 Ht3]
    · iapply (Entails.of_eq (krs_sep (fun kr => dutyTok ER (dmaC c (2, peer c kr.2, kr.1)) 0 0) (fun kr => dutyTok ER (dmaC (peer c kr.2) (3, c, kr.1)) 0 0)).symm)
      unfold tokHere tokThere
      isplitl [Ht2]; · iexact Ht2
      iexact Ht3
    isplitl [Ha2]; · iexact Ha2
    iapply (Entails.of_eq (krs_sep (fun kr => cred (tallyAt (dmaC c (3, peer c kr.2, kr.1)) () N)) (fun kr => atPos ER (dmaC c (3, peer c kr.2, kr.1)) 0 ∅ 0)).symm)
    isplitl [Hc3]; · iexact Hc3
    iexact Ha3
  unfold left
  isplitl [Hd0 Hd1 Hd2 Hd3]
  · isplitl [Hd0]; · iexact Hd0
    isplitl [Hd1]; · iexact Hd1
    isplitl [Hd2]; · iexact Hd2
    iexact Hd3
  isplitl [HSQd]; · iexact HSQd
  isplitl [HRQd]; · iexact HRQd
  iexact HRBd

/-- An array's unused entries close. -/
theorem close_part (K : Dev nD × Option Key → ℕ) (c : Dev nD) (a : Fin 4) :
    iprop(recs m K ∗ selfPart c (fun t k => atPos ER (dmaC c (a, t, k)) 0 ∅ 0))
      ⊢ |={Set.univ}=> selfPart c (fun t k => semVal (dmaC c (a, t, k)) 0) := by
  unfold selfPart
  simp only [ks_univ]
  refine BI.Entails.trans ?_ (bigSep_fupd _ _)
  refine bigSep_with_persistent fun k _ => ?_
  have h := Rounds.cell_close ER (sched (F := F) m) (Set.mem_univ (K (c, some (a, c, k)))) (fun h => h) (g := dmaC c (a, c, k)) (R := 0)
    (duties_unused m c (a, c, k) rfl)
  iintro ⟨#HR, Ha⟩
  iapply h
  isplitr; · iapply (recs_inv m K (c, some (a, c, k))); iexact HR
  iexact Ha

theorem close_left (K : Dev nD × Option Key → ℕ) (c : Dev nD) : iprop(recs m K ∗ left c) ⊢ |={Set.univ}=> idle c := by
  unfold left idle
  iintro ⟨#HR, ⟨H0, H1, H2, H3⟩, Hs⟩
  imod (close_part m K c 0) $$ [H0] with H0
  · isplitr; · iexact HR
    iexact H0
  imod (close_part m K c 1) $$ [H1] with H1
  · isplitr; · iexact HR
    iexact H1
  imod (close_part m K c 2) $$ [H2] with H2
  · isplitr; · iexact HR
    iexact H2
  imod (close_part m K c 3) $$ [H3] with H3
  · isplitr; · iexact HR
    iexact H3
  imodintro
  isplitl [H0 H1 H2 H3]
  · isplitl [H0]; · iexact H0
    isplitl [H1]; · iexact H1
    isplitl [H2]; · iexact H2
    iexact H3
  iexact Hs

/-! ## The semaphores at launch and at exit -/

/-- The kernel's own semaphores: the entries. -/
abbrev osem : Key → SemLoc sig := fun x => .dma (semK x)

theorem ownSemFacts : Pipeline.OwnSemFacts cfg0.spec osem where
  isScoped := by decide +kernel
  inj := semK_inj
  disj := fun x w s h => by
    have h1 := congrArg Fin.val (SemLoc.dma.inj h)
    rw [semK_val] at h1
    have h2 : ∀ (w : Fin 5) (s : Fin (cfg0.spec w).nbuf), ((cfg0.spec w).sem s).val < 5 := by decide
    have := h2 w s
    omega

theorem unscopedSems0_eq (c : Dev nD) : (unscopedSems0 c : sProp 𝕄) = semVal (barC c) 0 := by
  unfold unscopedSems0; rw [bigSep_eq_bigSepL_of_eq [SemLoc.reg barS] (by decide +kernel) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun o : Option Key => semVal (kcell (c, o)) 0 : sProp 𝕄) := by
  rw [unscopedSems0_eq, barrier_entries]
  unfold Pipeline.ownSems0
  iintro ⟨HS, HB⟩
  isplitl [HB]; · iexact HB
  iexact HS

/-- The slots of the totals back from the shares lent. -/
theorem totals_back (c : Dev nD) :
    peerPart c (fun t k => hold c (s3 k) (lent c t) (sent2 m c k)) ⊢ (bigSepL [0, 1, 2, 3] fun k => free c (s3 k) : sProp 𝕄) := by
  unfold peerPart
  rw [krs_chunks]
  simp only [ks_univ]
  exact bigSep_mono fun k _ => (hold_lent c (s3 k) (sent2 m c k)).2.trans (free_of_hold c (s3 k) (sent2 m c k))

theorem peerPart_mono (c : Dev nD) {Ψ Ψ' : Dev nD → Fin 4 → sProp 𝕄} (h : ∀ t k, Ψ t k ⊢ Ψ' t k) : peerPart c Ψ ⊢ peerPart c Ψ' := by
  unfold peerPart; simp only [krs_univ]; exact bigSep_mono fun kr _ => h _ _

theorem free_part (c : Dev nD) (M : Memref sig .tc .vmem S4x4x128x128 .bf16) (T : Dev nD → Fin 4 → Vec F S128x128 .bf16) :
    peerPart c (fun t k => hold c (s4 M t k) fullShare (T t k)) ⊢ (peerPart c fun t k => free c (s4 M t k) : sProp 𝕄) :=
  peerPart_mono c fun t k => free_of_hold c (s4 M t k) (T t k)

theorem leave (c : Dev nD) : iprop(spent m c ∗ idle c) ⊢ iprop(unscopedSems0 c ∗ Pipeline.ownSems0 osem c ∗ Pipeline.scopedRest cfg0.spec c) := by
  unfold spent idle Pipeline.ownSems0
  rw [unscopedSems0_eq, scratch_eq, arrays c]
  iintro ⟨⟨HzB, H1, H3, H0, H2⟩, ⟨Hz0d, Hz1d, Hz2d, Hz3d⟩, HSQd, HRQd, HRBd⟩
  ihave H1 := (Entails.of_eq (peer_sep c (fun t k => semVal (dmaC c (1, t, k)) 0) (fun t k => hold c (s4 RQ t k) fullShare (sent1 m t c k)))) $$ H1
  icases H1 with ⟨Hz1, HRQ⟩
  ihave H3 := (Entails.of_eq (peer_sep c (fun t k => semVal (dmaC c (3, t, k)) 0) (fun t k => hold c (s4 RB t k) fullShare (sent2 m t k)))) $$ H3
  icases H3 with ⟨Hz3, HRB⟩
  ihave H0 := (Entails.of_eq (peer_sep c (fun t k => semVal (dmaC c (0, t, k)) 0) (fun t k => free c (s4 SQ t k)))) $$ H0
  icases H0 with ⟨Hz0, HSQ⟩
  ihave H2 := (Entails.of_eq (peer_sep c (fun t k => semVal (dmaC c (2, t, k)) 0) (fun t k => hold c (s3 k) (lent c t) (sent2 m c k)))) $$ H2
  icases H2 with ⟨Hz2, HSB⟩
  ihave HRQ := (free_part c RQ fun t k => sent1 m t c k) $$ HRQ
  ihave HRB := (free_part c RB fun t k => sent2 m t k) $$ HRB
  ihave HSB := (totals_back m c) $$ HSB
  isplitl [HzB]; · iexact HzB
  isplitl [Hz0d Hz1d Hz2d Hz3d Hz0 Hz1 Hz2 Hz3]
  · isplitl [Hz0d Hz0]
    · isplitl [Hz0d]; · iexact Hz0d
      iexact Hz0
    isplitl [Hz1d Hz1]
    · isplitl [Hz1d]; · iexact Hz1d
      iexact Hz1
    isplitl [Hz2d Hz2]
    · isplitl [Hz2d]; · iexact Hz2d
      iexact Hz2
    isplitl [Hz3d]; · iexact Hz3d
    iexact Hz3
  isplitl [HSQd HSQ]
  · iapply (slots_in SQ c (m _))
    isplitl [HSQd]; · iexact HSQd
    iexact HSQ
  isplitl [HRQd HRQ]
  · iapply (slots_in RQ c (m _))
    isplitl [HRQd]; · iexact HRQd
    iexact HRQ
  isplitl [HSB]
  · iapply (totals_in c (m _)); iexact HSB
  iapply (slots_in RB c (m _))
  isplitl [HRBd]; · iexact HRBd
  iexact HRB

/-! ## The body's obligation -/

/-- The staging buffers' contents, the state around the body, and what is owed. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => iblk m c 0 t0_0
    | ⟨1, _⟩ => iblk m c 1 t0_0
    | ⟨2, _⟩ => iblk m c 2 t0_0
    | ⟨3, _⟩ => iblk m c 3 t0_0
    | ⟨4, _⟩ => outAt m c
  Φ t := match t with
    | ⟨0, _⟩ => iprop(start m c ∗ Pipeline.scopedRest cfg0.spec c)
    | ⟨_ + 1, _⟩ => iprop(spent m c ∗ idle c)
  q _ := fullShare
  owed t := match t with
    | ⟨0, _⟩ => due0 c rs
    | ⟨_ + 1, _⟩ => 0

/-- A whole staging buffer held at the contents `X`. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

abbrev staged (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

theorem staged_intro (c : Dev nD) (b : Ref sig .tc) (X : b.ty.Contents (Elt F)) : stg c b X ⊢ (staged c b X : sProp 𝕄) := by
  iintro H; iexists X
  isplitr; · ipureintro; rfl
  iexact H

def bodyPre (c : Dev nD) : sProp 𝕄 :=
  iprop((start m c ∗ Pipeline.scopedRest cfg0.spec c) ∗ (dats m ρ 0 c).owesAt () t0_0.castSucc
    ∗ (∃ d, staged c cc0_stg0_0 ((dats m ρ 0 c).before (0 : Fin 5) t0_0 d))
    ∗ (∃ d, staged c cc0_stg1_0 ((dats m ρ 0 c).before (1 : Fin 5) t0_0 d))
    ∗ (∃ d, staged c cc0_stg2_0 ((dats m ρ 0 c).before (2 : Fin 5) t0_0 d))
    ∗ (∃ d, staged c cc0_stg3_0 ((dats m ρ 0 c).before (3 : Fin 5) t0_0 d))
    ∗ (∃ d, staged c cc0_stg4_0 ((dats m ρ 0 c).before (4 : Fin 5) t0_0 d)))

def bodyPost (c : Dev nD) : sProp 𝕄 :=
  iprop((spent m c ∗ idle c) ∗ (dats m ρ 0 c).owesAt () t0_0.succ
    ∗ staged c cc0_stg0_0 (iblk m c 0 t0_0) ∗ staged c cc0_stg1_0 (iblk m c 1 t0_0) ∗ staged c cc0_stg2_0 (iblk m c 2 t0_0)
    ∗ staged c cc0_stg3_0 (iblk m c 3 t0_0) ∗ staged c cc0_stg4_0 (outAt m c))

theorem before_0 (c : Dev nD) (d) : (dats m ρ 0 c).before (0 : Fin 5) t0_0 d = iblk m c 0 t0_0 := by
  unfold Dat.before; rw [if_pos (fetch0_0 _)]; rfl
theorem before_1 (c : Dev nD) (d) : (dats m ρ 0 c).before (1 : Fin 5) t0_0 d = iblk m c 1 t0_0 := by
  unfold Dat.before; rw [if_pos (fetch0_1 _)]; rfl
theorem before_2 (c : Dev nD) (d) : (dats m ρ 0 c).before (2 : Fin 5) t0_0 d = iblk m c 2 t0_0 := by
  unfold Dat.before; rw [if_pos (fetch0_2 _)]; rfl
theorem before_3 (c : Dev nD) (d) : (dats m ρ 0 c).before (3 : Fin 5) t0_0 d = iblk m c 3 t0_0 := by
  unfold Dat.before; rw [if_pos (fetch0_3 _)]; rfl

theorem sound_body (c : Dev nD) :
    bodyPre m ρ c ⊢ run c (cc0_body XB (Memref.isWhole_whole _) (Memref.whole cc0_stg1_0) (Memref.isWhole_whole _) IB (Memref.isWhole_whole _)
      WB (Memref.isWhole_whole _) OB (Memref.isWhole_whole _) SQ (Memref.isWhole_whole _) RQ (Memref.isWhole_whole _) SB (Memref.isWhole_whole _)
      RB (Memref.isWhole_whole _) cc0_scratch4 cc0_scratch5 cc0_scratch6 cc0_scratch7) (fun _ => bodyPost m ρ c) := by
  rw [cc0_body_eq_flow]
  unfold run
  rw [wp_deviceId]
  unfold bodyPre start
  iintro ⟨⟨⟨⟨%K, #HM, Hlin⟩, #Hlev, Hcr⟩, Hscr⟩, Ho, ⟨%d0, %g0, %hg0, HX⟩, ⟨%d1, %g1, %hg1, HU⟩, ⟨%d2, %g2, %hg2, HI⟩, ⟨%d3, %g3, %hg3, HW⟩, ⟨%d4, %g4, %hg4, Hout⟩⟩
  rw [before_0 m ρ c] at hg0
  rw [before_1 m ρ c] at hg1
  rw [before_2 m ρ c] at hg2
  rw [before_3 m ρ c] at hg3
  subst hg0 hg1 hg2 hg3
  ihave Hst := (deal (F := F) K c) $$ [Hlin Hcr Hscr]
  · isplitl [Hlin]; · iexact Hlin
    isplitl [Hcr]; · iexact Hcr
    iexact Hscr
  icases Hst with ⟨Hst, Hleft⟩
  have hR : iprop(marks m K ∗ levAts L lv) ⊢ recs m K := by
    unfold marks recs
    iintro ⟨⟨H1, H2⟩, H3⟩
    isplitl [H1]; · iexact H1
    isplitl [H2]; · iexact H2
    iexact H3
  ihave #HR := hR $$ []
  · isplitr; · iexact HM
    iexact Hlev
  imod (close_left m K c) $$ [Hleft] with Hidle
  · isplitr; · iexact HR
    iexact Hleft
  unfold Dat.owesAt Pipeline.owesWithin
  icases Ho with ⟨%W, %hW, HO⟩
  rw [show (dats m ρ 0 c).owed t0_0.castSucc = due0 c rs from rfl]
  iapply (wp_flow m K c g4)
  isplitr; · iexact HR
  isplitl [Hst]; · iexact Hst
  isplitl [HX HI]
  · isplitl [HX]; · iexact HX
    iexact HI
  isplitl [HW]; · iexact HW
  isplitl [Hout]; · iexact Hout
  isplitl [HO]; · unfold owing; iexists W; iexact HO
  iintro ⟨Hsp, ⟨HX, HI⟩, HW, Hout, HO⟩
  unfold bodyPost owing Dat.owesAt Pipeline.owesWithin
  rw [show (dats m ρ 0 c).owed t0_0.succ = 0 from rfl]
  icases HO with ⟨%W', HO⟩
  isplitl [Hsp Hidle]
  · isplitl [Hsp]; · iexact Hsp
    iexact Hidle
  isplitl [HO]
  · iexists W'
    isplitr; · ipureintro; exact fun _ _ => Or.inl trivial
    iexact HO
  isplitl [HX]; · iapply (staged_intro (F := F) c); iexact HX
  isplitl [HU]; · iapply (staged_intro (F := F) c); iexact HU
  isplitl [HI]; · iapply (staged_intro (F := F) c); iexact HI
  isplitl [HW]; · iapply (staged_intro (F := F) c); iexact HW
  iapply (staged_intro (F := F) c); iexact Hout

set_option maxRecDepth 20000 in
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  exact sound_body m ρ c

/-! ## The launch -/

theorem share_full (c : Dev nD) (w : Fin cfg0.W) : (dats m ρ 0 c).share w = fullShare := by unfold Dat.share; split <;> rfl

theorem csem_injective : Function.Injective csem := by
  rintro (_ | x) (_ | y) h
  · rfl
  · exact absurd h (dma_ne_bar _).symm
  · exact absurd h (dma_ne_bar _)
  · exact congrArg some (semK_inj h)

theorem kcell_injective : Function.Injective (kcell : Dev nD × Option Key → GSem nD τ sig) := by
  rintro ⟨c, o⟩ ⟨c', o'⟩ h
  have h1 : c = c' := congrArg (fun g : GSem nD τ sig => g.1.1) h
  have h2 : o = o' := csem_injective (congrArg Prod.snd h)
  subst h1 h2; rfl

def allCells : Finset (GSem nD τ sig) := Finset.univ.map ⟨kcell, kcell_injective⟩

def u₀ : UU := (initOf (Pipeline.cells cfgs cellOf_inj) (Pipeline.launchToks cfgs cellOf_inj), initOf allCells allToks)

/-- What the launch deals device `c`, -/
def G (c : Dev nD) : sProp 𝕄 :=
  iprop((bigSep Finset.univ fun o : Option Key => roundState ER (sched m) (kcell (c, o)) 0)
    ∗ ((bigSep Finset.univ fun o : Option Key => atPos ER (kcell (c, o)) 0 ∅ 0) ∗ bigSep Finset.univ fun o : Option Key => reached ER (kcell (c, o)) 0) ∗ ownToks c)

/-- and what it has once every semaphore's invariant is set up. -/
def G' (c : Dev nD) : sProp 𝕄 := iprop(∃ K, marks m K ∗ linear c)

theorem allCells_eq (Φ : GSem nD τ sig → sProp 𝕄) :
    bigSep allCells Φ = bigSep Finset.univ fun c : Dev nD => bigSep Finset.univ fun o : Option Key => Φ (kcell (c, o)) := by
  unfold allCells; rw [bigSep_map, bigSep_univ_prod]; rfl

theorem fund : BI.own (ER (initOf allCells allToks)) ⊢ (|==> bigSep Finset.univ (G m) : sProp 𝕄) := by
  iintro HX
  imod (Rounds.fund ER (sched m) allCells allToks) $$ HX with ⟨Hst, Hr, Hat, Htok⟩
  imodintro
  ihave Hst := (Entails.of_eq (allCells_eq fun g => roundState ER (sched m) g 0)) $$ Hst
  ihave Hat := (Entails.of_eq (allCells_eq fun g => atPos ER g 0 ∅ 0)) $$ Hat
  ihave Hr := (Entails.of_eq (allCells_eq fun g => reached ER g 0)) $$ Hr
  ihave Htok := (Entails.of_eq (allToks_eq (F := F))) $$ Htok
  unfold G; simp only [bigSep_sep']
  isplitl [Hst]; · iexact Hst
  isplitl [Hat Hr]
  · isplitl [Hat] <;> iassumption
  iexact Htok

theorem device_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun o : Option Key => iprop(∃ κ : ℕ, cellInv ER (sched m) κ (kcell (c, o))))
          ∗ ((bigSep Finset.univ fun o : Option Key => atPos ER (kcell (c, o)) 0 ∅ 0) ∗ bigSep Finset.univ fun o : Option Key => reached ER (kcell (c, o)) 0) ∗ ownToks c) := by
  unfold G
  iintro ⟨Hos, Hus, Hst, Hrest⟩
  ihave Hv := (sems0_eq (F := F) c) $$ [Hos Hus]
  · isplitl [Hos] <;> iassumption
  imod (show iprop((bigSep Finset.univ fun o : Option Key => semVal (kcell (c, o)) 0) ∗ bigSep Finset.univ fun o : Option Key => roundState ER (sched m) (kcell (c, o)) 0)
      ⊢ (|={Set.univ}=> bigSep Finset.univ fun o : Option Key => iprop(∃ κ : ℕ, cellInv ER (sched m) κ (kcell (c, o))) : sProp 𝕄) from by
        rw [← bigSep_sep']
        exact (bigSep_mono fun o _ => (Rounds.body_intro ER (sched m) (kcell (c, o))).trans inv_alloc).trans (bigSep_fupd _ _)) $$ [Hv Hst] with Hinv
  · isplitl [Hv] <;> iassumption
  imodintro
  isplitl [Hinv]; · iexact Hinv
  iexact Hrest

theorem regroup :
    (bigSep Finset.univ fun c : Dev nD => iprop((bigSep Finset.univ fun o : Option Key => iprop(∃ κ : ℕ, cellInv ER (sched m) κ (kcell (c, o))))
          ∗ ((bigSep Finset.univ fun o : Option Key => atPos ER (kcell (c, o)) 0 ∅ 0) ∗ bigSep Finset.univ fun o : Option Key => reached ER (kcell (c, o)) 0) ∗ ownToks c) : sProp 𝕄)
      ⊢ bigSep Finset.univ (G' m) := by
  simp only [bigSep_sep']
  rw [← bigSep_univ_prod (fun ck : Dev nD × Option Key => iprop(∃ κ : ℕ, cellInv ER (sched m) κ (kcell ck))),
    ← bigSep_univ_prod (fun ck : Dev nD × Option Key => (reached ER (kcell ck) 0 : sProp 𝕄)), toks_around]
  iintro ⟨HI, ⟨Hat, #HR⟩, Htok⟩
  ihave HK := (BI.bigSep_exists_pi Finset.univ (fun (ck : Dev nD × Option Key) (κ : ℕ) => (cellInv ER (sched m) κ (kcell ck) : sProp 𝕄))) $$ HI
  icases HK with ⟨%K, #HI⟩
  have hG (c : Dev nD) : iprop(marks m K ∗ linear c) ⊢ G' m c := by
    unfold G'; iintro ⟨H1, H2⟩; iexists K; isplitl [H1]; · iexact H1
    iexact H2
  iapply (bigSep_with_persistent (R := marks m K) fun c _ => hG c)
  isplitr
  · unfold marks; isplitl; · iexact HI
    iexact HR
  unfold linear
  simp only [bigSep_sep']
  isplitl [Hat]; · iexact Hat
  iexact Htok

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => device_alloc m c).trans (bigSep_fupd _ _)).trans (BI.fupd_mono (regroup m))

theorem start_intro (c : Dev nD) :
    iprop(Pipeline.unscopedRestP Pipeline.Prefetch.none cfg0.spec c (fun b => m ((c : Thread nD τ).loc b)) ∗ levAts L lv
        ∗ Pipeline.launchCred (fun d => due0 d rs) c ∗ prngReg c (ρ c) ∗ G' m c)
      ⊢ |={Set.univ}=> iprop(start m c ∗ emp) := by
  iintro ⟨-, Hlev, Hcr, -, HG⟩
  ihave Hc := (creds_intro (F := F) c) $$ Hcr
  imodintro
  unfold start G'
  isplitl
  · isplitl [HG]; · iexact HG
    isplitl [Hlev]; · iexact Hlev
    iexact Hc
  · iempintro

theorem enter (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = iprop(start m c ∗ Pipeline.scopedRest cfg0.spec c) from rfl]
  iintro ⟨Hs, -, Hr⟩
  isplitl [Hs]; · iexact Hs
  iexact Hr

theorem mayWait_stage (c : Dev nD) (q : DmaSem sig) (hq : q.val < 5) (O : CellTallies nD τ sig Unit) (hO : O = due0 c rs ∨ O = 0) :
    (levAts L lv : sProp 𝕄) ⊢ MayWait (c : Thread nD τ) (.dma q) () O := by
  have hl : lv ((c : Thread nD τ), .dma q) () ≤ 0 := by unfold lv; rw [if_neg (dma_ne_bar _), key_low q hq]
  rcases hO with rfl | rfl
  · exact mayWait_above c _ hl (above_due0 c rs 0 (by decide))
  · exact mayWait_above c _ hl (above_zero 0)

theorem stage_low : ∀ (w : Fin 5) (s : Fin (cfg0.spec w).nbuf), ((cfg0.spec w).sem s).val < 5 := by decide

theorem waits (c : Dev nD) : (levAts L lv : sProp 𝕄) ⊢ Pipeline.cellsWaits cfgs (dats m ρ) () 0 c :=
  Pipeline.cellsWaits_intro cfgs (dats m ρ) () 0 c fun w s t =>
    mayWait_stage c _ (stage_low w s) _ (by
      rcases t with ⟨_ | _, ht⟩
      · exact Or.inl rfl
      · exact Or.inr rfl)

/-- Device `c`'s array of window `w` after the run. -/
def finalA (c : Dev nD) (w : Fin cfg0.W) : Buf (Elt F) ((cfg0.win w).arr.view.loc (c : Thread nD τ)) := (dats m ρ 0 c).arrAt w cfg0.N

def Final : PUnit × MemSt nD τ sig (Elt F) → Prop := fun r =>
  ∀ c : Dev nD, ∀ w : Fin cfg0.W, r.2.mem ((cfg0.win w).arr.view.loc (c : Thread nD τ)) = finalA m ρ c w

set_option maxRecDepth 20000 in
/-- Every weakly fair run ends with each device's arrays as computed and every counter at zero. -/
theorem run_main : θ_run defs (onTc (τ := τ) (main (F := F))) (s₀ m ρ) (fun r => Final m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_full m ρ)
    (hdistinct := winFacts0.arr_inj)
    (O₀ := fun d => due0 d rs) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := enter m ρ) (hout := fun c => leave m c)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The operands are unchanged. -/
theorem final_in (c : Dev nD) (w : Fin cfg0.W) (h : (cfg0.win w).isOut = false) :
    finalA m ρ c w = m ((cfg0.win w).arr.view.loc (c : Thread nD τ)) := (dats (F := F) m ρ 0 c).arrAt_in w h _

end Cert.KernelIdeal.Moe

end
-- ==== Proof.Frames.lean ====
/-
# The programs run

Each program terminates without fault, leaves its operands unchanged, and ends with every counter at zero. The kernel as
printed and the kernel read over the extended reals have one text, so one run, proved for any float values, gives both.
-/
module

public import proofs.«01_k».proof.Defs
public import proofs.«01_k».proof.Proof.Gen.Kernel
public import proofs.«01_k».proof.Proof.Gen.ReferenceIdeal.Run
public import proofs.«01_k».proof.Proof.Run

@[expose] public section

noncomputable section

namespace Cert.Proof

open Idealize.ShloMosaic Idealize.ShloMosaic.TcCoe Idealize.SL.Sem
open Cert.KernelIdeal.Moe

/-- The kernel's run with its result and operands named: the result is `outAt` on every device. -/
theorem run_kernel {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run Cert.KernelIdeal.defs (onTc (τ := Cert.KernelIdeal.τ) (Cert.KernelIdeal.main (F := F))) ⟨m, fun _ => 0, ρ⟩ (fun r =>
      (∀ c : Dev Cert.KernelIdeal.nD,
        r.2.mem ((c : Thread Cert.KernelIdeal.nD Cert.KernelIdeal.τ).loc Cert.KernelIdeal.main_v1) = finalA m ρ c (4 : Fin 5)
        ∧ r.2.mem ((c : Thread Cert.KernelIdeal.nD Cert.KernelIdeal.τ).loc Cert.KernelIdeal.main_arg0) = m ((c : Thread Cert.KernelIdeal.nD Cert.KernelIdeal.τ).loc Cert.KernelIdeal.main_arg0)
        ∧ r.2.mem ((c : Thread Cert.KernelIdeal.nD Cert.KernelIdeal.τ).loc Cert.KernelIdeal.main_arg1) = m ((c : Thread Cert.KernelIdeal.nD Cert.KernelIdeal.τ).loc Cert.KernelIdeal.main_arg1)
        ∧ r.2.mem ((c : Thread Cert.KernelIdeal.nD Cert.KernelIdeal.τ).loc Cert.KernelIdeal.main_arg2) = m ((c : Thread Cert.KernelIdeal.nD Cert.KernelIdeal.τ).loc Cert.KernelIdeal.main_arg2)
        ∧ r.2.mem ((c : Thread Cert.KernelIdeal.nD Cert.KernelIdeal.τ).loc Cert.KernelIdeal.main_arg3) = m ((c : Thread Cert.KernelIdeal.nD Cert.KernelIdeal.τ).loc Cert.KernelIdeal.main_arg3))
      ∧ r.2.sem = fun _ => 0) :=
  (θ_run Cert.KernelIdeal.defs _ _).mono
    (fun r h => ⟨fun c => ⟨h.1 c (4 : Fin 5), (h.1 c (0 : Fin 5)).trans (final_in m ρ c (0 : Fin 5) rfl), (h.1 c (1 : Fin 5)).trans (final_in m ρ c (1 : Fin 5) rfl),
      (h.1 c (2 : Fin 5)).trans (final_in m ρ c (2 : Fin 5) rfl), (h.1 c (3 : Fin 5)).trans (final_in m ρ c (3 : Fin 5) rfl)⟩, h.2⟩)
    (run_main m ρ)

/-- The operands and the counters alone. -/
theorem kept_kernel {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run Cert.KernelIdeal.defs (onTc (τ := Cert.KernelIdeal.τ) (Cert.KernelIdeal.main (F := F))) ⟨m, fun _ => 0, ρ⟩ (fun r =>
      (∀ c : Dev Cert.KernelIdeal.nD,
        r.2.mem ((c : Thread Cert.KernelIdeal.nD Cert.KernelIdeal.τ).loc Cert.KernelIdeal.main_arg0) = m ((c : Thread Cert.KernelIdeal.nD Cert.KernelIdeal.τ).loc Cert.KernelIdeal.main_arg0)
        ∧ r.2.mem ((c : Thread Cert.KernelIdeal.nD Cert.KernelIdeal.τ).loc Cert.KernelIdeal.main_arg1) = m ((c : Thread Cert.KernelIdeal.nD Cert.KernelIdeal.τ).loc Cert.KernelIdeal.main_arg1)
        ∧ r.2.mem ((c : Thread Cert.KernelIdeal.nD Cert.KernelIdeal.τ).loc Cert.KernelIdeal.main_arg2) = m ((c : Thread Cert.KernelIdeal.nD Cert.KernelIdeal.τ).loc Cert.KernelIdeal.main_arg2)
        ∧ r.2.mem ((c : Thread Cert.KernelIdeal.nD Cert.KernelIdeal.τ).loc Cert.KernelIdeal.main_arg3) = m ((c : Thread Cert.KernelIdeal.nD Cert.KernelIdeal.τ).loc Cert.KernelIdeal.main_arg3))
      ∧ r.2.sem = fun _ => 0) :=
  (θ_run Cert.KernelIdeal.defs _ _).mono (fun _ h => ⟨fun c => (h.1 c).2, h.2⟩) (run_kernel m ρ)

theorem frame_kernelIdeal : Cert.quiescent_KernelIdeal := fun m ρ _ => kept_kernel (F := Ideal) m ρ

/-- The two programs' kernels are one function, -/
theorem same_body {F : FTy → Type} [FloatOps F] : Cert.KernelIdeal.defs₀ (F := F) = Cert.Kernel.defs₀ (F := F) := by
  unfold Cert.Kernel.defs₀ Cert.KernelIdeal.defs₀
  refine congrArg Defs.onTc (funext fun l => funext fun p => ?_)
  match l, p with
  | ⟨0, _⟩, (t, s) => rfl
  | ⟨n + 1, h⟩, _ => exact absurd h (Nat.not_lt.2 (Nat.le_add_left _ _))

/-- and so are their tables. -/
theorem same_defs {F : FTy → Type} [FloatOps F] : Cert.KernelIdeal.defs (F := F) = Cert.Kernel.defs (F := F) :=
  congrArg (Pipeline.defs (Cert.Kernel.pcfgs (F := F))) same_body

theorem frame_kernel : Cert.quiescent_Kernel := fun m ρ _ => by
  have h := kept_kernel (F := Bits) m ρ
  rw [same_defs] at h
  exact h

/-- The reference has no semaphore, so its counters are zero throughout. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Proof

end
-- ==== Proof.Sums.lean ====
/-
# The kernel's result over the extended reals, as sums

Over the extended reals a change of type changes nothing, so a sum that went through the narrow type is the sum. A
device's share of an element is the row times its two experts' columns, the row replaced by zeros where the row's index
is not that expert; an element of the result is the sum of the four devices' shares, on every device.
-/
module

public import proofs.«01_k».proof.Proof.Body
public import Idealize.ShloMosaic.Lib.Pipeline.Value
public import Idealize.ShloMosaic.Lib.ValueIdx
public import Idealize.ShloMosaic.PureOps.Ideal.Laws

@[expose] public section

noncomputable section

namespace Cert.KernelIdeal.Moe

open Cert.KernelIdeal Cert.KernelIdeal.Gen
open Idealize.ShloMosaic Idealize.ShloMosaic.TcCoe Idealize.ShloMosaic.ValueIdx
open Idealize.SL.Sem

/-! ## One product -/

theorem prod_lhs0 (j : S128x128.Idx) (q : dot_S128x256_S256x128_S128x128_1_0_0_1_n_n.contr.Idx) :
    (dot_S128x256_S256x128_S128x128_1_0_0_1_n_n.lhsIdx j q 0).val = (j 0).val := by
  unfold DotDims.lhsIdx
  rw [dif_neg (show ¬(0 : Fin S128x256.rank) ∈ dot_S128x256_S256x128_S128x128_1_0_0_1_n_n.lhsBatch by decide),
    dif_pos (show (0 : Fin S128x256.rank) ∈ dot_S128x256_S256x128_S128x128_1_0_0_1_n_n.lhsNonContracting by decide)]
  rfl

theorem prod_rhs1 (j : S128x128.Idx) (q : dot_S128x256_S256x128_S128x128_1_0_0_1_n_n.contr.Idx) :
    (dot_S128x256_S256x128_S128x128_1_0_0_1_n_n.rhsIdx j q 1).val = (j 1).val := by
  unfold DotDims.rhsIdx
  rw [dif_neg (show ¬(1 : Fin S256x128.rank) ∈ dot_S128x256_S256x128_S128x128_1_0_0_1_n_n.rhsBatch by decide),
    dif_pos (show (1 : Fin S256x128.rank) ∈ dot_S128x256_S256x128_S128x128_1_0_0_1_n_n.rhsNonContracting by decide)]
  rfl

/-- The rows times one expert's columns, at an element. -/
theorem prod_apply (a : FVec Ideal S128x256 .f32) (w : Vec Ideal S1x256x128 .f32) (j : S128x128.Idx) :
    matmul (F := Ideal) dot_S128x256_S256x128_S128x128_1_0_0_1_n_n none a (shapeCast S256x128 w shapeCasts_S1x256x128_S256x128 : FVec Ideal S256x128 .f32)
        (constant S128x128 .f32 0x00000000#32) j
      = ∑ q : Fin 256, a (ix2 (j 0) q) * w (ix3 0 q (j 1)) := by
  simp only [matmul]
  rw [Ideal.matmul_constant_zero_apply, ← Equiv.sum_comp (contrEquiv1 dot_S128x256_S256x128_S128x128_1_0_0_1_n_n 256 rfl rfl).symm]
  refine Finset.sum_congr rfl fun q _ => ?_
  have hq := contrEquiv1_symm_val dot_S128x256_S256x128_S128x128_1_0_0_1_n_n 256 rfl rfl q
  have el : dot_S128x256_S256x128_S128x128_1_0_0_1_n_n.lhsIdx j ((contrEquiv1 dot_S128x256_S256x128_S128x128_1_0_0_1_n_n 256 rfl rfl).symm q) = ix2 (j 0) q :=
    funext fun x => Fin.ext (by
      match x with
      | ⟨0, _⟩ => exact prod_lhs0 _ _
      | ⟨1, _⟩ => exact (dot_S128x256_S256x128_S128x128_1_0_0_1_n_n.lhsIdx_val_of_single rfl j _).trans hq)
  have er : dot_S128x256_S256x128_S128x128_1_0_0_1_n_n.rhsIdx j ((contrEquiv1 dot_S128x256_S256x128_S128x128_1_0_0_1_n_n 256 rfl rfl).symm q) = ix2 q (j 1) :=
    funext fun x => Fin.ext (by
      match x with
      | ⟨0, _⟩ => exact (dot_S128x256_S256x128_S128x128_1_0_0_1_n_n.rhsIdx_val_of_single rfl j _).trans hq
      | ⟨1, _⟩ => exact prod_rhs1 _ _)
  rw [el, er]
  refine congrArg (a (ix2 (j 0) q) * ·) (shapeCast_apply w shapeCasts_S1x256x128_S256x128 (ix2 q (j 1)) (ix3 0 q (j 1)) ?_)
  rw [Shape.rowMajor_val_three, Shape.rowMajor_val_two]
  show (0 * 256 + q.val) * 128 + (j 1).val = q.val * 128 + (j 1).val
  omega

/-! ## The masked rows -/

/-- One where a row's index is the word, zero elsewhere. -/
def hit (b w : BitVec 32) : EReal := if b = w then 1 else 0

theorem hit_word (b w : BitVec 32) : FloatOps.sitofp (F := Ideal) .f32 ((IntOp.cmpi .eq b w).setWidth 32) = hit b w := by
  unfold hit
  by_cases h : b = w
  · have e : (IntOp.cmpi .eq b w).setWidth 32 = 1#32 := by
      rw [h]; show (BitVec.ofBool (w == w)).setWidth 32 = 1#32; rw [beq_self_eq_true]; rfl
    rw [if_pos h, e]
    show (((1#32).toInt : ℝ) : EReal) = 1
    rw [(by decide : (1#32).toInt = 1), Int.cast_one, EReal.coe_one]
  · have e : (IntOp.cmpi .eq b w).setWidth 32 = 0#32 := by
      show (BitVec.ofBool (b == w)).setWidth 32 = 0#32; rw [beq_eq_false_iff_ne.mpr h]; rfl
    rw [if_neg h, e]
    show (((0#32).toInt : ℝ) : EReal) = 0
    rw [(by decide : (0#32).toInt = 0), Int.cast_zero, EReal.coe_zero]

/-- The mask's column, spread over the row. -/
theorem mask_apply (i : IVec S128x1 32) (w : BitVec 32) (j : S128x256.Idx) :
    broadcastTo S128x256 (sitofp (F := Ideal) .f32 (extui 32 (cmpi .eq i (broadcast S128x1 w)) natLt_1_32)) broadcasts_S128x1_S128x256 j
      = hit (i (ix2 (j 0) 0)) w := by
  refine (broadcastTo_apply _ broadcasts_S128x1_S128x256 j (ix2 (j 0) 0) fun a => ?_).trans (hit_word _ _)
  match a with
  | ⟨0, _⟩ => exact (if_neg (show ¬(128 : ℕ) = 1 by decide)).symm
  | ⟨1, _⟩ => exact (if_pos rfl).symm

/-- The words of a device's two experts. -/
theorem word0 : ∀ s : Dev nD, Scalar.muli (pos s) 2#32 = BitVec.ofNat 32 (2 * s.val) := by decide +kernel
theorem word1 : ∀ s : Dev nD, Scalar.addi (Scalar.muli (pos s) 2#32) 1#32 = BitVec.ofNat 32 (2 * s.val + 1) := by decide +kernel

theorem rows0_apply (s : Dev nD) (x : Vec Ideal S128x256 .f32) (i : Vec Ideal S128x1 .i32) (j : S128x256.Idx) :
    rows0 (F := Ideal) s x i j = x j * hit (i (ix2 (j 0) 0)) (BitVec.ofNat 32 (2 * s.val)) := by
  unfold rows0 k0_pay7
  rw [mulf_apply, mask_apply, word0]
  unfold k0_pay5 k0_pay6
  simp only [shapeCast, Shape.reshapeEquiv_self]

theorem rows1_apply (s : Dev nD) (x : Vec Ideal S128x256 .f32) (i : Vec Ideal S128x1 .i32) (j : S128x256.Idx) :
    rows1 (F := Ideal) s x i j = x j * hit (i (ix2 (j 0) 0)) (BitVec.ofNat 32 (2 * s.val + 1)) := by
  unfold rows1 k0_pay8
  rw [mulf_apply, mask_apply, word1]
  unfold k0_pay5 k0_pay6
  simp only [shapeCast, Shape.reshapeEquiv_self]

/-! ## The shares and their sum -/

theorem partW_apply (a b : FVec Ideal S128x256 .f32) (w v : Vec Ideal S1x256x128 .f32) (j : S128x128.Idx) :
    partW (F := Ideal) a b w v j
      = (∑ q : Fin 256, a (ix2 (j 0) q) * w (ix3 0 q (j 1))) + ∑ q : Fin 256, b (ix2 (j 0) q) * v (ix3 0 q (j 1)) := by
  unfold partW k0_pay29
  rw [addf_apply, prod_apply, prod_apply]

/-- The share that went through the narrow type is the share. -/
theorem partN_eq (a b : FVec Ideal S128x256 .f32) (w v : Vec Ideal S1x256x128 .f32) : mat4 (F := Ideal) (partN a b w v) = partW (F := Ideal) a b w v := by
  funext j
  show partW (F := Ideal) a b w v (Shape.reshapeEquiv _ (Shape.reshapeEquiv _ j)) = _
  rw [Shape.reshapeEquiv_reshapeEquiv, Shape.reshapeEquiv_self]

theorem total_apply (m : FVec Ideal S128x128 .f32) (x y z : Vec Ideal S128x128 .bf16) (j : S128x128.Idx) :
    total (F := Ideal) m (blk4 x) (blk4 y) (blk4 z) j = m j + x j + y j + z j := by
  show m j + x (Shape.reshapeEquiv _ (Shape.reshapeEquiv _ j)) + y (Shape.reshapeEquiv _ (Shape.reshapeEquiv _ j))
    + z (Shape.reshapeEquiv _ (Shape.reshapeEquiv _ j)) = _
  rw [Shape.reshapeEquiv_reshapeEquiv, Shape.reshapeEquiv_self]

/-- The total that went through the narrow type is the total. -/
theorem totalN_eq (m : FVec Ideal S128x128 .f32) (x y z : Vec Ideal S1x1x128x128 .bf16) :
    wide (F := Ideal) (blk4 (mat3 (totalN m x y z))) = total (F := Ideal) m x y z := by
  funext j
  show total (F := Ideal) m x y z (Shape.reshapeEquiv _ (Shape.reshapeEquiv _ (Shape.reshapeEquiv _ (Shape.reshapeEquiv _ j)))) = _
  rw [Shape.reshapeEquiv_reshapeEquiv, Shape.reshapeEquiv_reshapeEquiv, Shape.reshapeEquiv_reshapeEquiv, Shape.reshapeEquiv_self]

/-- A device's own term and its peers' are the terms of all devices. -/
theorem sum_peers (f : Dev nD → EReal) : ∀ s : Dev nD, f s + f (peer s 1) + f (peer s 0) + f (peer s 2) = ∑ t, f t := by
  intro s
  have e : ∑ t, f t = f 0 + f 1 + f 2 + f 3 := Fin.sum_univ_four f
  rw [e]
  have g0 : f 0 + f 2 + f 1 + f 3 = f 0 + f 1 + f 2 + f 3 := by abel
  have g1 : f 1 + f 3 + f 0 + f 2 = f 0 + f 1 + f 2 + f 3 := by abel
  have g2 : f 2 + f 0 + f 3 + f 1 = f 0 + f 1 + f 2 + f 3 := by abel
  have g3 : f 3 + f 1 + f 2 + f 0 = f 0 + f 1 + f 2 + f 3 := by abel
  have h : (s = 0 ∧ peer s 1 = 2 ∧ peer s 0 = 1 ∧ peer s 2 = 3) ∨ (s = 1 ∧ peer s 1 = 3 ∧ peer s 0 = 0 ∧ peer s 2 = 2)
      ∨ (s = 2 ∧ peer s 1 = 0 ∧ peer s 0 = 3 ∧ peer s 2 = 1) ∨ (s = 3 ∧ peer s 1 = 1 ∧ peer s 0 = 2 ∧ peer s 2 = 0) := by
    revert s; decide
  rcases h with ⟨h, h1, h2, h3⟩ | ⟨h, h1, h2, h3⟩ | ⟨h, h1, h2, h3⟩ | ⟨h, h1, h2, h3⟩ <;> rw [h1, h2, h3, h]
  · exact g0
  · exact g1
  · exact g2
  · exact g3

section
variable (m : (ℓ : Loc nD τ sig) → Buf (Elt Ideal) ℓ)

/-- Device `t`'s share of chunk `k` for the quarter of device `d`. -/
def portion (t d : Dev nD) (k : Fin 4) : FVec Ideal S128x128 .f32 := partW (ra m t k) (rb m t k) (wq m t 0 d) (wq m t 1 d)

theorem tot_apply (d : Dev nD) (k : Fin 4) (j : S128x128.Idx) : tot m d k j = ∑ t, portion m t d k j := by
  unfold tot
  rw [total_apply]
  have h : ∀ t, sent1 m t d k = portion m t d k := fun t => partN_eq _ _ _ _
  rw [h, h, h]
  exact sum_peers (fun t => portion m t d k j) d

/-- Every device has every total. -/
theorem outBlk_eq (c : Dev nD) (k : Fin 4) (d : Dev nD) : outBlk m c k d = tot m d k := by
  unfold outBlk
  by_cases h : d = c
  · rw [if_pos h, h]
  · rw [if_neg h]; exact totalN_eq _ _ _ _

theorem outAt_apply (c : Dev nD) (i : S512x512.Idx) : outAt m c i = (∑ t, portion m t (colDev i) (rowChunk i) (inBlk i) : EReal) := by
  unfold outAt
  rw [outBlk_eq, tot_apply]

end

end Cert.KernelIdeal.Moe

end
-- ==== Proof.Expert.lean ====
/-
# The reference's result, element by element

Row `i` of the result is row `i` of the rows times the matrix of the expert that the row's index names; when the index
names none of the eight experts, the row is zero. The reference takes the expert's matrix by a gather, whose start it
clamps, and replaces it by zeros where the index is out of range; so its result is `expert`.
-/
module

public import proofs.«01_k».proof.Proof.Gen.ReferenceIdeal.Read
public import Idealize.ShloMosaic.PureOps.Reduce
public import Idealize.ShloMosaic.Lib.ValueIdx

@[expose] public section

noncomputable section

namespace Cert.ReferenceIdeal.Expert

open Cert.ReferenceIdeal Cert.ReferenceIdeal.Gen Cert.ReferenceIdeal.Read
open Idealize.ShloMosaic Idealize.ShloMosaic.ValueIdx

/-- A row times the matrix of the expert that its index names, or zero when it names none. -/
def expert (X : S512x256.Idx → EReal) (I : S512x1.Idx → BitVec 32) (W : S8x256x512.Idx → EReal) (i : S512x512.Idx) : EReal :=
  if h : (I (ix2 (i 0) 0)).toNat < 8 then ∑ k : Fin 256, X (ix2 (i 0) k) * W (ix3 ⟨(I (ix2 (i 0) 0)).toNat, h⟩ k (i 1)) else 0

variable (x0 : (⟨S512x256, .f32⟩ : BufTy).Contents (Elt Ideal)) (x2 : (⟨S512x1, .i32⟩ : BufTy).Contents (Elt Ideal))
  (x3 : (⟨S8x256x512, .f32⟩ : BufTy).Contents (Elt Ideal))

/-- The column of start indices is the column of the indices. -/
theorem start_eq (p : Fin 512) : val_main_v1 (F := Ideal) x2 (ix2 p 0) = x2 (ix2 p 0) := by
  rw [val_main_v1_apply, val_main_v0_apply]
  refine congrArg x2 (funext fun a => Fin.ext ?_)
  match a with
  | ⟨0, _⟩ => exact Nat.div_one _
  | ⟨1, _⟩ => rfl

instance : Std.Commutative (IntOp.andi : BitVec 1 → BitVec 1 → BitVec 1) := ⟨fun x y => BitVec.and_comm x y⟩
instance : Std.Associative (IntOp.andi : BitVec 1 → BitVec 1 → BitVec 1) := ⟨fun x y z => BitVec.and_assoc x y z⟩

/-- A row's bit is its one entry in the column of bits. -/
theorem bit_eq (j : S512.Idx) : val_main_v8 (F := Ideal) x2 j = val_main_v7 (F := Ideal) x2 (ix2 (j 0) 0) := by
  have hr : S512x1.Reduces [1] S512 := by decide
  have hl : hr.lift j (0 : Fin 1) = ix2 (j 0) 0 := funext fun a => Fin.ext (by
    match a with
    | ⟨0, _⟩ => rfl
    | ⟨1, _⟩ => rfl)
  unfold val_main_v8
  rw [Host.reduce_eq_fold_single IntOp.andi _ _ _ hr]
  refine Eq.trans (show _ = IntOp.andi (val_main_v7 (F := Ideal) x2 (hr.lift j (0 : Fin 1))) 1#1 from ?_) ?_
  · exact (congrArg _ (Finset.univ_unique (α := Fin 1))).trans Finset.fold_singleton
  · rw [hl]
    exact BitVec.and_allOnes

/-- The bit says whether the index, as a signed word, is between 0 and 7. -/
theorem in_range : ∀ b : BitVec 32, IntOp.andi (IntOp.cmpi .sge b 0#32) (IntOp.cmpi .sle b 7#32) = if b.toNat < 8 then 1#1 else 0#1 := by
  intro b
  have hb := b.isLt
  have e := BitVec.toInt_eq_toNat_cond b
  have e0 : (0#32).toInt = 0 := by decide
  have e7 : (7#32).toInt = 7 := by decide
  have h1 : IntOp.cmpi .sge b 0#32 = BitVec.ofBool (decide (0 ≤ b.toInt)) := by
    show BitVec.ofBool (decide ((0#32).toInt ≤ b.toInt)) = _
    rw [e0]
  have h2 : IntOp.cmpi .sle b 7#32 = BitVec.ofBool (decide (b.toInt ≤ 7)) := by
    show BitVec.ofBool (decide (b.toInt ≤ (7#32).toInt)) = _
    rw [e7]
  rw [h1, h2]
  by_cases h : b.toNat < 8
  · rw [if_pos h, decide_eq_true (by split at e <;> omega), decide_eq_true (by split at e <;> omega)]; rfl
  · rw [if_neg h]
    by_cases hn : 0 ≤ b.toInt
    · rw [decide_eq_true hn, decide_eq_false (by split at e <;> omega)]; rfl
    · rw [decide_eq_false hn]
      cases decide (b.toInt ≤ 7) <;> rfl

theorem bit_val (j : S512.Idx) : val_main_v8 (F := Ideal) x2 j = if (x2 (ix2 (j 0) 0)).toNat < 8 then 1#1 else 0#1 := by
  rw [bit_eq, val_main_v7_apply, val_main_v3_apply, val_main_v6_apply, val_main_v2_apply, val_main_v5_apply, val_main_v4_apply]
  have e := start_eq x2 (j 0)
  refine Eq.trans ?_ (in_range (x2 (ix2 (j 0) 0)))
  exact congrArg (fun b => IntOp.andi (IntOp.cmpi .sge b 0#32) (IntOp.cmpi .sle b 7#32)) e

abbrev G := gather_S8x256x512_S512x1_S512x256x512_12_0_n_n_0_1_1256512

/-- The gathered matrix of a row is that of the expert at the clamped index. -/
theorem gather_eq (i : S512x256x512.Idx) :
    val_main_v9 (F := Ideal) x2 x3 i = x3 (ix3 ⟨min (x2 (ix2 (i 0) 0)).toInt.toNat 7, by omega⟩ (i 1) (i 2)) := by
  unfold val_main_v9 Host.gather
  refine congrArg x3 (funext fun a => Fin.ext ?_)
  match a with
  | ⟨0, _⟩ =>
    show G.start i _ 0 + G.batchCoord i 0 + G.offCoord i 0 = min (x2 (ix2 (i 0) 0)).toInt.toNat 7
    have hm : (0 : Fin 3) ∈ G.startIndexMap := List.mem_singleton.mpr rfl
    have hs : G.siIdx i ⟨G.startIndexMap.idxOf 0, List.idxOf_lt_length_iff.2 hm⟩ = ix2 (i 0) 0 := funext fun b => Fin.ext (by
      match b with
      | ⟨0, _⟩ => rfl
      | ⟨1, _⟩ => rfl)
    rw [G.batchCoord_eq_zero i 0 (by decide), G.offCoord_eq_zero i 0 (by decide)]
    unfold GatherDims.start
    rw [dif_pos hm, hs]
    exact congrArg (fun v : BitVec 32 => min v.toInt.toNat 7) (start_eq x2 (i 0))
  | ⟨1, _⟩ =>
    show G.start i _ 1 + G.batchCoord i 1 + G.offCoord i 1 = (i 1).val
    rw [G.batchCoord_eq_zero i 1 (by decide)]
    unfold GatherDims.start GatherDims.offCoord
    rw [dif_neg (by decide), dif_pos (by decide)]
    exact Nat.zero_add _
  | ⟨2, _⟩ =>
    show G.start i _ 2 + G.batchCoord i 2 + G.offCoord i 2 = (i 2).val
    rw [G.batchCoord_eq_zero i 2 (by decide)]
    unfold GatherDims.start GatherDims.offCoord
    rw [dif_neg (by decide), dif_pos (by decide)]
    exact Nat.zero_add _

/-- The reference's result at an element. -/
theorem result_eq : val_main_v13 (F := Ideal) x0 x2 x3 = expert x0 x2 x3 := by
  funext i
  rw [val_main_v13_apply]
  unfold expert
  have hx : ∀ k : Fin 256, lidx_main_v13 i k = ix2 (i 0) k := fun k => funext fun a => Fin.ext (by
    match a with
    | ⟨0, _⟩ => rfl
    | ⟨1, _⟩ => rfl)
  have hv : ∀ k : Fin 256, val_main_v12 (F := Ideal) x2 x3 (ridx_main_v13 i k)
      = if h : (x2 (ix2 (i 0) 0)).toNat < 8 then x3 (ix3 ⟨(x2 (ix2 (i 0) 0)).toNat, h⟩ k (i 1)) else 0 := fun k => by
    rw [val_main_v12_apply, val_main_v10_apply, bit_val]
    show Scalar.select (if (x2 (ix2 (i 0) 0)).toNat < 8 then 1#1 else 0#1) _ _ = _
    by_cases h : (x2 (ix2 (i 0) 0)).toNat < 8
    · rw [if_pos h, dif_pos h, gather_eq]
      have e := BitVec.toInt_eq_toNat_cond (x2 (ix2 (i 0) 0))
      have e' : min (x2 (ix2 (i 0) 0)).toInt.toNat 7 = (x2 (ix2 (i 0) 0)).toNat := by split at e <;> omega
      exact congrArg x3 (funext fun a => Fin.ext (by
        match a with
        | ⟨0, _⟩ => exact e'
        | ⟨1, _⟩ => rfl
        | ⟨2, _⟩ => rfl))
    · rw [if_neg h, dif_neg h, val_main_v11_apply]
      exact Ideal.ofBits_zero_f32
  by_cases h : (x2 (ix2 (i 0) 0)).toNat < 8
  · rw [dif_pos h]
    exact Finset.sum_congr rfl fun k _ => by rw [hx, hv, dif_pos h]; rfl
  · rw [dif_neg h]
    exact Finset.sum_eq_zero fun k _ => by rw [hv, dif_neg h, mul_zero]

end Cert.ReferenceIdeal.Expert

end
-- ==== Proof.Equal.lean ====
/-
# The kernel's result is the reference's

The rows, the indices and each device's two experts are read off the operands; an element of the result is then the sum
over all eight experts of the row's products, each kept only where the row's index is that expert: `expert`, which is
what the reference computes.
-/
module

public import proofs.«01_k».proof.Proof.Sums
public import proofs.«01_k».proof.Proof.Expert
public import proofs.«01_k».proof.Proof.Frames
public import Idealize.ShloMosaic.Lib.Pipeline.ValueKit.Geometry

@[expose] public section

noncomputable section

namespace Cert.KernelIdeal.Moe

open Cert.KernelIdeal Cert.KernelIdeal.Gen
open Idealize.ShloMosaic Idealize.ShloMosaic.TcCoe Idealize.ShloMosaic.ValueIdx
open Idealize.SL.Sem
open Cert.ReferenceIdeal.Expert (expert)

section
variable {F : FTy → Type} [FloatOps F] (m : (ℓ : Loc nD τ sig) → Buf (Elt F) ℓ) (ρ : Dev nD → PrngReg)

/-! ## The operands and the result, whole -/

theorem stX_eq (c : Dev nD) : stX m c = m ((c : Thread nD τ).loc main_arg0) := by
  funext x
  refine congrArg (m ((c : Thread nD τ).loc main_arg0)) (funext fun a => Fin.ext ?_)
  match a with
  | ⟨0, _⟩ => show 0 * 512 + 1 * (x 0).val = (x 0).val; omega
  | ⟨1, _⟩ => show 0 * 256 + 1 * (x 1).val = (x 1).val; omega

theorem stI_eq (c : Dev nD) : stI m c = m ((c : Thread nD τ).loc main_arg2) := by
  funext x
  refine congrArg (m ((c : Thread nD τ).loc main_arg2)) (funext fun a => Fin.ext ?_)
  match a with
  | ⟨0, _⟩ => show 0 * 512 + 1 * (x 0).val = (x 0).val; omega
  | ⟨1, _⟩ => show 0 * 1 + 1 * (x 1).val = (x 1).val; omega

theorem stW_eq (c : Dev nD) : stW m c = m ((c : Thread nD τ).loc main_arg3) := by
  funext x
  refine congrArg (m ((c : Thread nD τ).loc main_arg3)) (funext fun a => Fin.ext ?_)
  match a with
  | ⟨0, _⟩ => show 0 * 2 + 1 * (x 0).val = (x 0).val; omega
  | ⟨1, _⟩ => show 0 * 256 + 1 * (x 1).val = (x 1).val; omega
  | ⟨2, _⟩ => show 0 * 512 + 1 * (x 2).val = (x 2).val; omega

/-- The result's array ends as the staged result. -/
theorem final_out (c : Dev nD) : finalA m ρ c (4 : Fin 5) = outAt m c := by
  unfold finalA
  exact (dats m ρ 0 c).arrAt_eq_of_after_last (4 : Fin 5) t0_0 (by decide +kernel) _ (fun j => rfl)

/-! ## The operands at an element of the result -/

theorem xk_at (t : Dev nD) (i : S512x512.Idx) (q : Fin 256) :
    xk m t (rowChunk i) (ix2 (inBlk i 0) q) = m ((t : Thread nD τ).loc main_arg0) (ix2 (i 0) q) := by
  unfold xk
  rw [stX_eq]
  refine congrArg (m ((t : Thread nD τ).loc main_arg0)) (funext fun a => Fin.ext ?_)
  match a with
  | ⟨0, _⟩ => show (i 0).val / 128 * 128 + 1 * ((i 0).val % 128) = (i 0).val; omega
  | ⟨1, _⟩ => show 0 + 1 * q.val = q.val; omega

theorem ik_at (t : Dev nD) (i : S512x512.Idx) :
    ik m t (rowChunk i) (ix2 (inBlk i 0) 0) = m ((t : Thread nD τ).loc main_arg2) (ix2 (i 0) 0) := by
  unfold ik
  rw [stI_eq]
  refine congrArg (m ((t : Thread nD τ).loc main_arg2)) (funext fun a => Fin.ext ?_)
  match a with
  | ⟨0, _⟩ => show (i 0).val / 128 * 128 + 1 * ((i 0).val % 128) = (i 0).val; omega
  | ⟨1, _⟩ => rfl

theorem wq_at (t : Dev nD) (e : Fin 2) (i : S512x512.Idx) (q : Fin 256) :
    wq m t e (colDev i) (ix3 0 q (inBlk i 1)) = m ((t : Thread nD τ).loc main_arg3) (ix3 e q (i 1)) := by
  unfold wq
  rw [stW_eq]
  have h := quart_colDev ⟨(i 1).val / 128, by have : (i 1).val < 512 := (i 1).isLt; omega⟩
  refine congrArg (m ((t : Thread nD τ).loc main_arg3)) (funext fun a => Fin.ext ?_)
  match a with
  | ⟨0, _⟩ => show e.val + 1 * 0 = e.val; omega
  | ⟨1, _⟩ => show 0 + 1 * q.val = q.val; omega
  | ⟨2, _⟩ =>
    show quart (colDev i) + 1 * ((i 1).val % 128) = (i 1).val
    unfold colDev; rw [h]
    show (i 1).val / 128 * 128 + 1 * ((i 1).val % 128) = (i 1).val; omega

end

/-! ## The sum over the experts -/

section
variable (X : S512x256.Idx → EReal) (I : S512x1.Idx → BitVec 32) (W : Cert.ReferenceIdeal.S8x256x512.Idx → EReal)

/-- What expert `n` adds to an element. -/
def term (i : S512x512.Idx) (n : Fin 8) : EReal :=
  ∑ q : Fin 256, X (ix2 (i 0) q) * hit (I (ix2 (i 0) 0)) (BitVec.ofNat 32 n.val) * W (ix3 n q (i 1))

theorem term_eq (i : S512x512.Idx) (n : Fin 8) :
    term X I W i n = if n.val = (I (ix2 (i 0) 0)).toNat then ∑ q : Fin 256, X (ix2 (i 0) q) * W (ix3 n q (i 1)) else 0 := by
  unfold term hit
  have hn : (BitVec.ofNat 32 n.val).toNat = n.val := by
    rw [BitVec.toNat_ofNat]; exact Nat.mod_eq_of_lt (by have := n.isLt; omega)
  by_cases h : n.val = (I (ix2 (i 0) 0)).toNat
  · rw [if_pos h]
    have e : I (ix2 (i 0) 0) = BitVec.ofNat 32 n.val := BitVec.eq_of_toNat_eq (by rw [hn]; exact h.symm)
    exact Finset.sum_congr rfl fun q _ => by rw [if_pos e, mul_one]
  · rw [if_neg h]
    have e : ¬I (ix2 (i 0) 0) = BitVec.ofNat 32 n.val := fun e => h (by
      have := congrArg BitVec.toNat e; rw [hn] at this; exact this.symm)
    exact Finset.sum_eq_zero fun q _ => by rw [if_neg e, mul_zero, zero_mul]

/-- Of the eight terms at most the named expert's is left. -/
theorem sum_terms (i : S512x512.Idx) : ∑ n, term X I W i n = expert X I W i := by
  unfold expert
  simp only [term_eq]
  by_cases h : (I (ix2 (i 0) 0)).toNat < 8
  · refine Eq.trans ?_ (dif_pos h).symm
    refine (Finset.sum_eq_single (⟨(I (ix2 (i 0) 0)).toNat, h⟩ : Fin 8) (fun n _ hn => ?_) fun hn => absurd (Finset.mem_univ _) hn).trans ?_
    · exact if_neg fun e => hn (Fin.ext e)
    · exact if_pos rfl
  · refine Eq.trans ?_ (dif_neg h).symm
    exact Finset.sum_eq_zero fun n _ => if_neg fun (e : n.val = (I (ix2 (i 0) 0)).toNat) => h (e ▸ n.isLt)

/-- The experts device by device. -/
theorem sum_pairs (f : Fin 8 → EReal) :
    ∑ t : Dev nD, (f ⟨2 * t.val, by have : t.val < 4 := t.isLt; omega⟩ + f ⟨2 * t.val + 1, by have : t.val < 4 := t.isLt; omega⟩) = ∑ n, f n := by
  refine (Fin.sum_univ_four (M := EReal) _).trans ?_
  rw [Fin.sum_univ_eight]
  show f 0 + f 1 + (f 2 + f 3) + (f 4 + f 5) + (f 6 + f 7) = _
  abel

end

/-! ## The result -/

section
variable (m : (ℓ : Loc nD τ sig) → Buf (Elt Ideal) ℓ)
  (X : S512x256.Idx → EReal) (I : S512x1.Idx → BitVec 32) (W : Cert.ReferenceIdeal.S8x256x512.Idx → EReal)

/-- A device's share of an element is its two experts' terms. -/
theorem portion_eq (t : Dev nD) (hX : m ((t : Thread nD τ).loc main_arg0) = X) (hI : m ((t : Thread nD τ).loc main_arg2) = I)
    (hW : m ((t : Thread nD τ).loc main_arg3) = Layout.block ⟨3, ![2, 256, 512]⟩ ⟨3, ![8, 256, 512]⟩ 0 4 t W) (i : S512x512.Idx) :
    portion m t (colDev i) (rowChunk i) (inBlk i)
      = term X I W i ⟨2 * t.val, by have : t.val < 4 := t.isLt; omega⟩ + term X I W i ⟨2 * t.val + 1, by have : t.val < 4 := t.isLt; omega⟩ := by
  unfold portion
  rw [partW_apply]
  have hw : ∀ (e : Fin 2) (q : Fin 256), wq m t e (colDev i) (ix3 0 q (inBlk i 1))
      = W (ix3 ⟨2 * t.val + e.val, by have : t.val < 4 := t.isLt; have := e.isLt; omega⟩ q (i 1)) := fun e q => by
    rw [wq_at, hW]
    refine congrArg W (funext fun a => Fin.ext ?_)
    match a with
    | ⟨0, _⟩ => show t.val * 2 + e.val = 2 * t.val + e.val; omega
    | ⟨1, _⟩ => rfl
    | ⟨2, _⟩ => rfl
  have hx : ∀ q : Fin 256, xk m t (rowChunk i) (ix2 (inBlk i 0) q) = X (ix2 (i 0) q) := fun q => by rw [xk_at, hX]
  have hi : ik m t (rowChunk i) (ix2 (inBlk i 0) 0) = I (ix2 (i 0) 0) := by rw [ik_at, hI]
  refine congrArg₂ (· + ·) (Finset.sum_congr rfl fun q _ => ?_) (Finset.sum_congr rfl fun q _ => ?_)
  · refine congrArg₂ (· * ·) ?_ (hw 0 q)
    refine (rows0_apply t _ _ _).trans ?_
    exact congrArg₂ (· * ·) (hx q) (congrArg (hit · _) hi)
  · refine congrArg₂ (· * ·) ?_ (hw 1 q)
    refine (rows1_apply t _ _ _).trans ?_
    exact congrArg₂ (· * ·) (hx q) (congrArg (hit · _) hi)

/-- Every device's staged result is `expert` of the operands. -/
theorem out_expert (hX : ∀ t : Dev nD, m ((t : Thread nD τ).loc main_arg0) = X) (hI : ∀ t : Dev nD, m ((t : Thread nD τ).loc main_arg2) = I)
    (hW : ∀ t : Dev nD, m ((t : Thread nD τ).loc main_arg3) = Layout.block ⟨3, ![2, 256, 512]⟩ ⟨3, ![8, 256, 512]⟩ 0 4 t W) (c : Dev nD) :
    outAt m c = expert X I W := by
  funext i
  refine (outAt_apply m c i).trans ?_
  refine (Finset.sum_congr rfl fun t _ => portion_eq m X I W t (hX t) (hI t) (hW t) i).trans ?_
  exact (sum_pairs (term X I W i)).trans (sum_terms X I W i)

end

end Cert.KernelIdeal.Moe

namespace Cert.Proof

open Idealize.ShloMosaic Idealize.ShloMosaic.TcCoe Idealize.SL.Sem
open Cert.KernelIdeal.Moe
open Cert.ReferenceIdeal.Expert (expert)

/-- The kernel's result, on every device, and the reference's are one array. -/
theorem algebraic : Cert.algebraic_KernelIdeal_ReferenceIdeal := fun m g m' g' _ hargs => by
  refine ⟨expert (m' (((0 : Dev Cert.ReferenceIdeal.nD).tc : Thread _ _).loc Cert.ReferenceIdeal.main_arg0))
    (m' (((0 : Dev Cert.ReferenceIdeal.nD).tc : Thread _ _).loc Cert.ReferenceIdeal.main_arg2))
    (m' (((0 : Dev Cert.ReferenceIdeal.nD).tc : Thread _ _).loc Cert.ReferenceIdeal.main_arg3)), ?_, ?_⟩
  · exact (θ_run Cert.KernelIdeal.defs _ _).mono (fun r h c =>
      ⟨(h.1 c).1.trans ((final_out m g c).trans (out_expert m _ _ _ (fun t => (hargs t).1) (fun t => (hargs t).2.2.1) (fun t => (hargs t).2.2.2) c)),
        (h.1 c).2⟩) (run_kernel (F := Ideal) m g)
  · exact (θ_run Cert.ReferenceIdeal.defs _ _).mono (fun r h =>
      ⟨(h 0).1.trans ((Cert.ReferenceIdeal.Read.val_main_v13_eq (F := Ideal) _ _ _).trans (Cert.ReferenceIdeal.Expert.result_eq _ _ _)), (h 0).2⟩)
      (Cert.ReferenceIdeal.Value.run (F := Ideal) m' g')

end Cert.Proof

end
-- ==== Proof.lean ====
/-
# The certificate

The printed kernel, the kernel over the extended reals and the reference each run to the end without fault and leave
their operands unchanged; the kernel over the extended reals is the printed kernel; and on every device the kernel's
result is the reference's.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Frames
public import proofs.«01_k».proof.Proof.Equal

@[expose] public section

namespace Cert.Proof

/-- Every claim of the certificate. -/
theorem claim : Cert.Claim :=
  ⟨Cert.Kernel.Gen.facts, Cert.KernelIdeal.Gen.facts, Cert.ReferenceIdeal.Gen.facts,
    frame_kernel, frame_kernelIdeal, frame_reference, trivial, algebraic⟩

end Cert.Proof
